-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_Reference_ReferenceIdeal : Prop :=
  IdealRules.named_const.Statement Cert.ReferenceIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_v2_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S24x4096x2560 : Shape := ⟨3, ![24, 4096, 2560]⟩
abbrev S1056x2560 : Shape := ⟨2, ![1056, 2560]⟩
abbrev S9x20 : Shape := ⟨2, ![9, 20]⟩
abbrev S768 : Shape := ⟨1, ![768]⟩
abbrev S256 : Shape := ⟨1, ![256]⟩
abbrev S1x768 : Shape := ⟨2, ![1, 768]⟩
abbrev S1x256 : Shape := ⟨2, ![1, 256]⟩
abbrev S24x4096x768 : Shape := ⟨3, ![24, 4096, 768]⟩
abbrev S6x24x4096 : Shape := ⟨3, ![6, 24, 4096]⟩
abbrev S24x4096x256 : Shape := ⟨3, ![24, 4096, 256]⟩
abbrev S24x32x4096 : Shape := ⟨3, ![24, 32, 4096]⟩
abbrev S20x24x4096 : Shape := ⟨3, ![20, 24, 4096]⟩
abbrev S8x128x2560 : Shape := ⟨3, ![8, 128, 2560]⟩
abbrev S8x128x768 : Shape := ⟨3, ![8, 128, 768]⟩
abbrev S6x8x128 : Shape := ⟨3, ![6, 8, 128]⟩
abbrev S8x128x256 : Shape := ⟨3, ![8, 128, 256]⟩
abbrev S8x32x128 : Shape := ⟨3, ![8, 32, 128]⟩
abbrev S20x8x128 : Shape := ⟨3, ![20, 8, 128]⟩
abbrev S128x2560 : Shape := ⟨2, ![128, 2560]⟩
abbrev S128x128 : Shape := ⟨2, ![128, 128]⟩
abbrev S1x1 : Shape := ⟨2, ![1, 1]⟩
abbrev S32x128 : Shape := ⟨2, ![32, 128]⟩
abbrev S1x128x128 : Shape := ⟨3, ![1, 128, 128]⟩
abbrev S128 : Shape := ⟨1, ![128]⟩
abbrev S128x1 : Shape := ⟨2, ![128, 1]⟩
abbrev S1x255 : Shape := ⟨2, ![1, 255]⟩
abbrev S128x255 : Shape := ⟨2, ![128, 255]⟩
abbrev S20x128 : Shape := ⟨2, ![20, 128]⟩
abbrev S20x1x128 : Shape := ⟨3, ![20, 1, 128]⟩
abbrev S1024x2560 : Shape := ⟨2, ![1024, 2560]⟩
abbrev S128x1024 : Shape := ⟨2, ![128, 1024]⟩
abbrev S32x2560 : Shape := ⟨2, ![32, 2560]⟩
abbrev S1x32x128 : Shape := ⟨3, ![1, 32, 128]⟩
abbrev S128x768 : Shape := ⟨2, ![128, 768]⟩
abbrev S128x256 : Shape := ⟨2, ![128, 256]⟩
abbrev S1x128x256 : Shape := ⟨3, ![1, 128, 256]⟩
abbrev S1x128 : Shape := ⟨2, ![1, 128]⟩
abbrev S1x246 : Shape := ⟨2, ![1, 246]⟩
abbrev S128x246 : Shape := ⟨2, ![128, 246]⟩
abbrev S6x128 : Shape := ⟨2, ![6, 128]⟩
abbrev S6x1x128 : Shape := ⟨3, ![6, 1, 128]⟩

abbrev nBuf : Space → Nat
  | .hbm => 13
  | .vmem => 19
  | .smem => 1
  | _ => 0

abbrev bufTy : (tb : Table) → Fin (tcTables nBuf tb) → BufTy
  | .hbm, ⟨0, _⟩ => ⟨S24x4096x2560, .bf16⟩
  | .hbm, ⟨1, _⟩ => ⟨S1056x2560, .fp8e4m3⟩
  | .hbm, ⟨2, _⟩ => ⟨S9x20, .f32⟩
  | .hbm, ⟨3, _⟩ => ⟨S768, .f32⟩
  | .hbm, ⟨4, _⟩ => ⟨S256, .f32⟩
  | .hbm, ⟨5, _⟩ => ⟨S1x768, .f32⟩
  | .hbm, ⟨6, _⟩ => ⟨S1x256, .f32⟩
  | .hbm, ⟨7, _⟩ => ⟨S24x4096x768, .fp8e4m3⟩
  | .hbm, ⟨8, _⟩ => ⟨S6x24x4096, .f32⟩
  | .hbm, ⟨9, _⟩ => ⟨S24x4096x256, .bf16⟩
  | .hbm, ⟨10, _⟩ => ⟨S24x32x4096, .bf16⟩
  | .hbm, ⟨11, _⟩ => ⟨S24x4096x2560, .fp8e4m3⟩
  | .hbm, ⟨12, _⟩ => ⟨S20x24x4096, .f32⟩
  | .local _ .vmem, ⟨0, _⟩ => ⟨S8x128x2560, .bf16⟩
  | .local _ .vmem, ⟨1, _⟩ => ⟨S8x128x2560, .bf16⟩
  | .local _ .vmem, ⟨2, _⟩ => ⟨S1056x2560, .fp8e4m3⟩
  | .local _ .vmem, ⟨3, _⟩ => ⟨S1x768, .f32⟩
  | .local _ .vmem, ⟨4, _⟩ => ⟨S1x256, .f32⟩
  | .local _ .vmem, ⟨5, _⟩ => ⟨S8x128x768, .fp8e4m3⟩
  | .local _ .vmem, ⟨6, _⟩ => ⟨S8x128x768, .fp8e4m3⟩
  | .local _ .vmem, ⟨7, _⟩ => ⟨S6x8x128, .f32⟩
  | .local _ .vmem, ⟨8, _⟩ => ⟨S6x8x128, .f32⟩
  | .local _ .vmem, ⟨9, _⟩ => ⟨S8x128x256, .bf16⟩
  | .local _ .vmem, ⟨10, _⟩ => ⟨S8x128x256, .bf16⟩
  | .local _ .vmem, ⟨11, _⟩ => ⟨S8x32x128, .bf16⟩
  | .local _ .vmem, ⟨12, _⟩ => ⟨S8x32x128, .bf16⟩
  | .local _ .vmem, ⟨13, _⟩ => ⟨S8x128x2560, .fp8e4m3⟩
  | .local _ .vmem, ⟨14, _⟩ => ⟨S8x128x2560, .fp8e4m3⟩
  | .local _ .vmem, ⟨15, _⟩ => ⟨S20x8x128, .f32⟩
  | .local _ .vmem, ⟨16, _⟩ => ⟨S20x8x128, .f32⟩
  | .local _ .vmem, ⟨17, _⟩ => ⟨S1056x2560, .bf16⟩
  | .local _ .vmem, ⟨18, _⟩ => ⟨S128x2560, .bf16⟩
  | .local _ .smem, ⟨0, _⟩ => ⟨S9x20, .f32⟩
  | _, _ => ⟨S24x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![3, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S8x128x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1056x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S9x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S8x128x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S6x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x128x2560 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S20x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
variable {F : FTy → Type} [FloatOps F] [Named F]
def κ : String → Option EReal := fun
  | "log2e" => some (((Real.log 2)⁻¹ : ℝ) : EReal)
  | _ => none
-- ==== Reference.lean ====
abbrev S24x4096x2560 : Shape := ⟨3, ![24, 4096, 2560]⟩
abbrev S1056x2560 : Shape := ⟨2, ![1056, 2560]⟩
abbrev S9x20 : Shape := ⟨2, ![9, 20]⟩
abbrev S768 : Shape := ⟨1, ![768]⟩
abbrev S256 : Shape := ⟨1, ![256]⟩
abbrev S1x768 : Shape := ⟨2, ![1, 768]⟩
abbrev S1x256 : Shape := ⟨2, ![1, 256]⟩
abbrev S24x4096x768 : Shape := ⟨3, ![24, 4096, 768]⟩
abbrev S6x24x4096 : Shape := ⟨3, ![6, 24, 4096]⟩
abbrev S24x4096x256 : Shape := ⟨3, ![24, 4096, 256]⟩
abbrev S24x32x4096 : Shape := ⟨3, ![24, 32, 4096]⟩
abbrev S20x24x4096 : Shape := ⟨3, ![20, 24, 4096]⟩
abbrev S24x4096x20x128 : Shape := ⟨4, ![24, 4096, 20, 128]⟩
abbrev S24x4096x20 : Shape := ⟨3, ![24, 4096, 20]⟩
abbrev S24x4096x20x1 : Shape := ⟨4, ![24, 4096, 20, 1]⟩
abbrev S98304x2560 : Shape := ⟨2, ![98304, 2560]⟩
abbrev S9x1x20x1 : Shape := ⟨4, ![9, 1, 20, 1]⟩
abbrev S9x128x20x128 : Shape := ⟨4, ![9, 128, 20, 128]⟩
abbrev S1152x2560 : Shape := ⟨2, ![1152, 2560]⟩
abbrev S98304x1056 : Shape := ⟨2, ![98304, 1056]⟩
abbrev S98304x768 : Shape := ⟨2, ![98304, 768]⟩
abbrev S98304x256 : Shape := ⟨2, ![98304, 256]⟩
abbrev S98304x32 : Shape := ⟨2, ![98304, 32]⟩
abbrev S24x4096x32 : Shape := ⟨3, ![24, 4096, 32]⟩
abbrev S98304 : Shape := ⟨1, ![98304]⟩
abbrev S98304x1 : Shape := ⟨2, ![98304, 1]⟩
abbrev S24x4096x6x128 : Shape := ⟨4, ![24, 4096, 6, 128]⟩
abbrev S24x4096x6 : Shape := ⟨3, ![24, 4096, 6]⟩
abbrev S24x4096x6x1 : Shape := ⟨4, ![24, 4096, 6, 1]⟩

abbrev nBuf : Space → Nat
  | .hbm => 13
  | .vmem => 11
  | .smem => 0
  | _ => 0

abbrev bufTy : (tb : Table) → Fin (tcTables nBuf tb) → BufTy
  | .hbm, ⟨0, _⟩ => ⟨S24x4096x2560, .bf16⟩
  | .hbm, ⟨1, _⟩ => ⟨S1056x2560, .fp8e4m3⟩
  | .hbm, ⟨2, _⟩ => ⟨S9x20, .f32⟩
  | .hbm, ⟨3, _⟩ => ⟨S768, .f32⟩
  | .hbm, ⟨4, _⟩ => ⟨S256, .f32⟩
  | .hbm, ⟨5, _⟩ => ⟨S1x768, .f32⟩
  | .hbm, ⟨6, _⟩ => ⟨S1x256, .f32⟩
  | .hbm, ⟨7, _⟩ => ⟨S24x4096x768, .fp8e4m3⟩
  | .hbm, ⟨8, _⟩ => ⟨S6x24x4096, .f32⟩
  | .hbm, ⟨9, _⟩ => ⟨S24x4096x256, .bf16⟩
  | .hbm, ⟨10, _⟩ => ⟨S24x32x4096, .bf16⟩
  | .hbm, ⟨11, _⟩ => ⟨S24x4096x2560, .fp8e4m3⟩
  | .hbm, ⟨12, _⟩ => ⟨S20x24x4096, .f32⟩
  | .local _ .vmem, ⟨0, _⟩ => ⟨S24x4096x2560, .bf16⟩
  | .local _ .vmem, ⟨1, _⟩ => ⟨S1056x2560, .fp8e4m3⟩
  | .local _ .vmem, ⟨2, _⟩ => ⟨S9x20, .f32⟩
  | .local _ .vmem, ⟨3, _⟩ => ⟨S1x768, .f32⟩
  | .local _ .vmem, ⟨4, _⟩ => ⟨S1x256, .f32⟩
  | .local _ .vmem, ⟨5, _⟩ => ⟨S24x4096x768, .fp8e4m3⟩
  | .local _ .vmem, ⟨6, _⟩ => ⟨S6x24x4096, .f32⟩
  | .local _ .vmem, ⟨7, _⟩ => ⟨S24x4096x256, .bf16⟩
  | .local _ .vmem, ⟨8, _⟩ => ⟨S24x32x4096, .bf16⟩
  | .local _ .vmem, ⟨9, _⟩ => ⟨S24x4096x2560, .fp8e4m3⟩
  | .local _ .vmem, ⟨10, _⟩ => ⟨S20x24x4096, .f32⟩
  | _, _ => ⟨S24x4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_v2_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S24x4096x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x4096x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x24x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x4096x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x32x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S24x4096x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S20x24x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Pieces.lean ====
/- The lists of stores the kernel's body makes, written again as short recursions: one store per batch row block and
   lane group, every store built by the same functions of what it loads. Each list is shown equal to the one the body's
   run gives. -/
module

public import proofs.«01_k».proof.Proof.Gen.KernelIdeal.Frame

@[expose] public section

set_option maxRecDepth 16384

noncomputable section

namespace Cert.Mla

open Cert.KernelIdeal Cert.KernelIdeal.Gen Idealize.ShloMosaic Idealize.ShloMosaic.TcCoe

variable {F : FTy → Type} [FloatOps F]

/-! ## Loads -/

/-- A 128-lane group of batch `b` lies inside the block of `x`. -/
theorem inbX (b g : ℕ) (hb : b < 8) (hg : g < 20) :
    ∀ a, (![b, 0, 128 * g] : Fin 3 → ℕ) a + S1x128x128.size a ≤ S8x128x2560.size a := by
  intro a
  match a with
  | 0 => show b + 1 ≤ 8; omega
  | 1 => show 0 + 128 ≤ 128; omega
  | 2 => show 128 * g + 128 ≤ 2560; omega

/-- A 128-lane group of the scratch of dequantised activations. -/
theorem inbA (g : ℕ) (hg : g < 20) :
    ∀ a, (![0, 128 * g] : Fin 2 → ℕ) a + S128x128.size a ≤ S128x2560.size a := by
  intro a
  match a with
  | 0 => show 0 + 128 ≤ 128; omega
  | 1 => show 128 * g + 128 ≤ 2560; omega

theorem lt20 (n : ℕ) : n % 20 < 20 := Nat.mod_lt _ (by decide)
theorem lt8 (n : ℕ) : n % 8 < 8 := Nat.mod_lt _ (by decide)

section X
variable (arg2 : Memref sig .tc .vmem S8x128x2560 .bf16) (harg2 : arg2.IsWhole) (x0 : Vec F S8x128x2560 .bf16)

/-- The load of group `n % 20` of batch `n / 20`. -/
def ldX (n : ℕ) : Vec F S1x128x128 .bf16 :=
  View.readAt (Elt F) arg2.view (Rect.unit (s := S8x128x2560) ![n / 20 % 8, 0, 128 * (n % 20)] S1x128x128.size (inbX _ _ (lt8 _) (lt20 _))).toLoadRect (harg2.unread x0)

/-- The scale words of that group. -/
def wdX (n : ℕ) : IVec S128x1 16 := k0_pay233 (ldX arg2 harg2 x0 n)

/-- The first `n` stores of quantised activations. -/
def codePieces : ℕ → List (View.Piece (Elt F) S8x128x2560 .fp8e4m3)
  | 0 => []
  | n + 1 => ⟨Rect.unit (s := S8x128x2560) ![n / 20 % 8, 0, 128 * (n % 20)] S1x128x128.size (inbX _ _ (lt8 _) (lt20 _)),
      k0_pay236 (k0_pay232 (ldX arg2 harg2 x0 n)) (wdX arg2 harg2 x0 n)⟩ :: codePieces n

/-- The first `n` stores of dequantised activations. -/
def actPieces : ℕ → List (View.Piece (Elt F) S128x2560 .bf16)
  | 0 => []
  | n + 1 => ⟨Rect.unit (s := S128x2560) ![0, 128 * (n % 20)] S128x128.size (inbA _ (lt20 _)),
      k0_pay237 (k0_pay232 (ldX arg2 harg2 x0 n)) (wdX arg2 harg2 x0 n)⟩ :: actPieces n

/-- The load of the whole scratch of dequantised activations once batch `b` is stored. -/
def ldA (arg14 : Memref sig .tc .vmem S128x2560 .bf16) (b : ℕ) : Vec F S128x2560 .bf16 :=
  arg14.view.readCov (actPieces arg2 harg2 x0 (20 * b + 20)) (Rect.unit ![0, 0] S128x2560.size inb_S128x2560_S128x2560_0_0).toLoadRect

/-! ## The scales of the activations: lane `g` of a 128 by 128 matrix, then turned -/

/-- After `g` groups, lane `k < g` of each row holds the scale of group `k`. -/
def scaleX (wd : ℕ → IVec S128x1 16) : ℕ → FVec F S128x128 .bf16
  | 0 => k0_pay231
  | g + 1 => select (cmpi .eq kernelRun0_B.sl.v6 (broadcast S128x128 (BitVec.ofNat 16 g)))
      (broadcastTo S128x128 (shapeCast S128x1 (k0_pay234 (F := F) (wd g)) shapeCasts_S128x1_S128x1) broadcasts_S128x1_S128x128)
      (scaleX wd g)

/-- The turned matrix's first twenty rows. -/
def turnX (M : FVec F S128x128 .bf16) : FVec F S20x1x128 .f32 :=
  shapeCast S20x1x128
    (extf .f32 (extractStridedSlice S20x128 ![0, 0] (transpose S128x128 [1, 0] M transposes_S128x128_p1_0_S128x128) slices_S128x128_o0_0_S20x128) bitsLt_bf16_f32)
    shapeCasts_S20x128_S20x1x128

/-- Batch `b` lies inside the block of activation scales. -/
theorem inbXS (b : ℕ) (hb : b < 8) : ∀ a, (![0, b, 0] : Fin 3 → ℕ) a + S20x1x128.size a ≤ S20x8x128.size a := by
  intro a
  match a with
  | 0 => show 0 + 20 ≤ 20; omega
  | 1 => show b + 1 ≤ 8; omega
  | 2 => show 0 + 128 ≤ 128; omega

/-- The first `n` stores of activation scales. -/
def scalePieces : ℕ → List (View.Piece (Elt F) S20x8x128 .f32)
  | 0 => []
  | b + 1 => ⟨Rect.unit (s := S20x8x128) ![0, b % 8, 0] S20x1x128.size (inbXS _ (lt8 _)),
      turnX (scaleX (fun g => wdX arg2 harg2 x0 (20 * b + g)) 20)⟩ :: scalePieces b

end X

/-! ## The product, the two norms and the second quantiser -/

/-- Group `g` of the 768 lanes. -/
theorem slQ (g : ℕ) (hg : g < 6) : S128x768.Slices ![0, 128 * g] S128x128 :=
  ⟨rfl, fun a => by
    match a with
    | 0 => show 0 + 128 ≤ 128; omega
    | 1 => show 128 * g + 128 ≤ 768; omega⟩

/-- Group `g` of the 768 norm weights. -/
theorem inbG (g : ℕ) (hg : g < 6) : ∀ a, (![0, 128 * g] : Fin 2 → ℕ) a + S1x128.size a ≤ S1x768.size a := by
  intro a
  match a with
  | 0 => show 0 + 1 ≤ 1; omega
  | 1 => show 128 * g + 128 ≤ 768; omega

theorem lt6 (n : ℕ) : n % 6 < 6 := Nat.mod_lt _ (by decide)

/-- The normed lanes of group `g`. -/
def normQ (y : FVec F S128x768 .f32) (g : ℕ) (gq : Vec F S1x128 .f32) : FVec F S128x128 .f32 :=
  mulf (mulf (extractStridedSlice S128x128 ![0, 128 * (g % 6)] y (slQ _ (lt6 _)))
      (broadcastTo S128x128 (k0_pay409 y) broadcasts_S128x1_S128x128))
    (broadcastTo S128x128 (shapeCast S1x128 gq shapeCasts_S1x128_S1x128) broadcasts_S1x128_S128x128)

/-- Which thresholds the group's bound reaches. -/
def reachQ (u : FVec F S128x128 .f32) : FVec F S128x246 .f32 :=
  select
    (cmpf .oge
      (broadcastTo S128x246
        (mulf (shapeCast S128x1 (multiReduction .maximumf [1] S128 (absf u) 0xFF800000#32 reduces_S128x128_S128 (.inl rfl) rfl) shapeCasts_S128_S128x1)
          (broadcast S128x1 (Scalar.ofBits .f32 0x3B124925#32)))
        broadcasts_S128x1_S128x246)
      (broadcastTo S128x246
        (bitcastToFloat .f32 (shli (addi (iota .tc S1x246 32 [1] iota_S1x246_d1_w32) (broadcast S1x246 1#32)) (broadcast S1x246 23#32)))
        broadcasts_S1x246_S128x246))
    (broadcast S128x246 (Scalar.ofBits .f32 0x3F800000#32)) (broadcast S128x246 (Scalar.ofBits .f32 0x00000000#32))

/-- After `g` groups, lane `k < g` of each row holds the scale of group `k`. -/
def scaleQ (u : ℕ → FVec F S128x128 .f32) : ℕ → FVec F S128x128 .f32
  | 0 => k0_pay410
  | g + 1 => select (cmpi .eq kernelRun0_B.sl.v1230 (broadcast S128x128 (BitVec.ofNat 32 g)))
      (broadcastTo S128x128 (shapeCast S128x1 (bitcastToFloat .f32 (k0_pay413 (reachQ (u g)))) shapeCasts_S128x1_S128x1) broadcasts_S128x1_S128x128)
      (scaleQ u g)

/-- The turned matrix's first six rows. -/
def turnQ (M : FVec F S128x128 .f32) : FVec F S6x1x128 .f32 :=
  shapeCast S6x1x128
    (extractStridedSlice S6x128 ![0, 0] (transpose S128x128 [1, 0] M transposes_S128x128_p1_0_S128x128) slices_S128x128_o0_0_S6x128)
    shapeCasts_S6x128_S6x1x128

theorem inbKV (b : ℕ) (hb : b < 8) : ∀ a, (![b, 0, 0] : Fin 3 → ℕ) a + S1x128x256.size a ≤ S8x128x256.size a := by
  intro a
  match a with
  | 0 => show b + 1 ≤ 8; omega
  | 1 => show 0 + 128 ≤ 128; omega
  | 2 => show 0 + 256 ≤ 256; omega

theorem inbPE (b : ℕ) (hb : b < 8) : ∀ a, (![b, 0, 0] : Fin 3 → ℕ) a + S1x32x128.size a ≤ S8x32x128.size a := by
  intro a
  match a with
  | 0 => show b + 1 ≤ 8; omega
  | 1 => show 0 + 32 ≤ 32; omega
  | 2 => show 0 + 128 ≤ 128; omega

theorem inbQ (b g : ℕ) (hb : b < 8) (hg : g < 6) :
    ∀ a, (![b, 0, 128 * g] : Fin 3 → ℕ) a + S1x128x128.size a ≤ S8x128x768.size a := by
  intro a
  match a with
  | 0 => show b + 1 ≤ 8; omega
  | 1 => show 0 + 128 ≤ 128; omega
  | 2 => show 128 * g + 128 ≤ 768; omega

theorem inbQS (b : ℕ) (hb : b < 8) : ∀ a, (![0, b, 0] : Fin 3 → ℕ) a + S6x1x128.size a ≤ S6x8x128.size a := by
  intro a
  match a with
  | 0 => show 0 + 6 ≤ 6; omega
  | 1 => show b + 1 ≤ 8; omega
  | 2 => show 0 + 128 ≤ 128; omega

section Y
variable (xa : ℕ → Vec F S128x2560 .bf16) (w : Vec F S1024x2560 .bf16) (wp : Vec F S32x2560 .bf16) (gq : ℕ → Vec F S1x128 .f32) (gk : Vec F S1x256 .f32)

/-- The first `n` stores of the normed latent lanes. -/
def latPieces : ℕ → List (View.Piece (Elt F) S8x128x256 .bf16)
  | 0 => []
  | b + 1 => ⟨Rect.unit (s := S8x128x256) ![b % 8, 0, 0] S1x128x256.size (inbKV _ (lt8 _)), k0_pay408 (k0_pay407 (xa b) w) gk⟩ :: latPieces b

/-- The first `n` stores of the position lanes. -/
def posPieces : ℕ → List (View.Piece (Elt F) S8x32x128 .bf16)
  | 0 => []
  | b + 1 => ⟨Rect.unit (s := S8x32x128) ![b % 8, 0, 0] S1x32x128.size (inbPE _ (lt8 _)), k0_pay405 (xa b) wp⟩ :: posPieces b

/-- The normed lanes of group `g` of batch `b`. -/
def uQ (b g : ℕ) : FVec F S128x128 .f32 := normQ (k0_pay406 (xa b) w) g (gq (g % 6))

/-- The first `n` stores of quantised lanes. -/
def qPieces : ℕ → List (View.Piece (Elt F) S8x128x768 .fp8e4m3)
  | 0 => []
  | n + 1 => ⟨Rect.unit (s := S8x128x768) ![n / 6 % 8, 0, 128 * (n % 6)] S1x128x128.size (inbQ _ _ (lt8 _) (lt6 _)),
      k0_pay414 (uQ xa w gq (n / 6) (n % 6)) (reachQ (uQ xa w gq (n / 6) (n % 6)))⟩ :: qPieces n

/-- The first `n` stores of their scales. -/
def qsPieces : ℕ → List (View.Piece (Elt F) S6x8x128 .f32)
  | 0 => []
  | b + 1 => ⟨Rect.unit (s := S6x8x128) ![0, b % 8, 0] S6x1x128.size (inbQS _ (lt8 _)), turnQ (scaleQ (uQ xa w gq b) 6)⟩ :: qsPieces b

end Y

/-! ## The dequantised weights -/

theorem inbW (j g : ℕ) (hj : j < 8) (hg : g < 20) :
    ∀ a, (![128 * j, 128 * g] : Fin 2 → ℕ) a + S128x128.size a ≤ S1056x2560.size a := by
  intro a
  match a with
  | 0 => show 128 * j + 128 ≤ 1056; omega
  | 1 => show 128 * g + 128 ≤ 2560; omega

theorem inbW' (g : ℕ) (hg : g < 20) :
    ∀ a, (![1024, 128 * g] : Fin 2 → ℕ) a + S32x128.size a ≤ S1056x2560.size a := by
  intro a
  match a with
  | 0 => show 1024 + 32 ≤ 1056; omega
  | 1 => show 128 * g + 128 ≤ 2560; omega

theorem inbS (j g : ℕ) (hj : j < 9) (hg : g < 20) : ∀ a, (![j, g] : Fin 2 → ℕ) a + S1x1.size a ≤ S9x20.size a := by
  intro a
  match a with
  | 0 => show j + 1 ≤ 9; omega
  | 1 => show g + 1 ≤ 20; omega

section W
variable (arg3 : Memref sig .tc .vmem S1056x2560 .fp8e4m3) (harg3 : arg3.IsWhole) (arg4 : Memref sig .tc .smem S9x20 .f32) (harg4 : arg4.IsWhole)
  (x1 : Vec F S1056x2560 .fp8e4m3) (x2 : Vec F S9x20 .f32)

/-- The scale of weight block `(j, g)`. -/
def ldS (j g : ℕ) (hj : j < 9) (hg : g < 20) : Elt F .f32 :=
  View.readAt (Elt F) arg4.view (Rect.unit (s := S9x20) ![j, g] S1x1.size (inbS j g hj hg)).toLoadRect (harg4.unread x2) (Shape.Idx.first (show 0 < S1x1.numel by decide))

/-- The first `n` stores of dequantised weights: whole blocks of 128 rows. -/
def wPieces : ℕ → List (View.Piece (Elt F) S1056x2560 .bf16)
  | 0 => []
  | n + 1 => ⟨Rect.unit (s := S1056x2560) ![128 * (n / 20 % 8), 128 * (n % 20)] S128x128.size (inbW _ _ (lt8 _) (lt20 _)),
      k0_pay205 (View.readAt (Elt F) arg3.view (Rect.unit (s := S1056x2560) ![128 * (n / 20 % 8), 128 * (n % 20)] S128x128.size (inbW _ _ (lt8 _) (lt20 _))).toLoadRect (harg3.unread x1))
        (ldS arg4 harg4 x2 (n / 20 % 8) (n % 20) (Nat.lt_succ_of_lt (lt8 _)) (lt20 _))⟩ :: wPieces n

/-- The further stores of the last 32 rows. -/
def wPieces' : ℕ → List (View.Piece (Elt F) S1056x2560 .bf16)
  | 0 => wPieces arg3 harg3 arg4 harg4 x1 x2 160
  | n + 1 => ⟨Rect.unit (s := S1056x2560) ![1024, 128 * (n % 20)] S32x128.size (inbW' _ (lt20 _)),
      k0_pay206 (View.readAt (Elt F) arg3.view (Rect.unit (s := S1056x2560) ![1024, 128 * (n % 20)] S32x128.size (inbW' _ (lt20 _))).toLoadRect (harg3.unread x1))
        (ldS arg4 harg4 x2 8 (n % 20) (by decide) (lt20 _))⟩ :: wPieces' n

end W

/-! ## The lists the run gives -/

section L
variable (c : Dev nD) (i : grid0.Coords) (arg2 : Memref sig .tc .vmem S8x128x2560 .bf16) (harg2 : arg2.IsWhole) (arg3 : Memref sig .tc .vmem S1056x2560 .fp8e4m3) (harg3 : arg3.IsWhole) (arg4 : Memref sig .tc .smem S9x20 .f32) (harg4 : arg4.IsWhole) (arg5 : Memref sig .tc .vmem S1x768 .f32) (harg5 : arg5.IsWhole) (arg6 : Memref sig .tc .vmem S1x256 .f32) (harg6 : arg6.IsWhole) (arg7 : Memref sig .tc .vmem S8x128x768 .fp8e4m3) (harg7 : arg7.IsWhole) (arg8 : Memref sig .tc .vmem S6x8x128 .f32) (harg8 : arg8.IsWhole) (arg9 : Memref sig .tc .vmem S8x128x256 .bf16) (harg9 : arg9.IsWhole) (arg10 : Memref sig .tc .vmem S8x32x128 .bf16) (harg10 : arg10.IsWhole) (arg11 : Memref sig .tc .vmem S8x128x2560 .fp8e4m3) (harg11 : arg11.IsWhole) (arg12 : Memref sig .tc .vmem S20x8x128 .f32) (harg12 : arg12.IsWhole) (arg13 : Memref sig .tc .vmem S1056x2560 .bf16) (harg13 : arg13.IsWhole) (arg14 : Memref sig .tc .vmem S128x2560 .bf16) (harg14 : arg14.IsWhole)
    (x0 : Vec F S8x128x2560 .bf16) (x1 : Vec F S1056x2560 .fp8e4m3) (x2 : Vec F S9x20 .f32) (x3 : Vec F S1x768 .f32) (x4 : Vec F S1x256 .f32) (xs0 : Vec F S1056x2560 .bf16)

/-- The loads of the 768 norm weights. -/
def ldG (g : ℕ) : Vec F S1x128 .f32 :=
  View.readAt (Elt F) arg5.view (Rect.unit (s := S1x768) ![0, 128 * (g % 6)] S1x128.size (inbG _ (lt6 _))).toLoadRect (harg5.unread x3)

/-- The load of the 256 norm weights. -/
def ldK : Vec F S1x256 .f32 :=
  View.readAt (Elt F) arg6.view (Rect.unit ![0, 0] S1x256.size inb_S1x256_S1x256_0_0).toLoadRect (harg6.unread x4)

/-- The product weights and the position weights of a scratch carried into the point. -/
def ldWB : Vec F S1024x2560 .bf16 :=
  View.readAt (Elt F) arg13.view (Rect.unit (s := S1056x2560) ![0, 0] S1024x2560.size inb_S1056x2560_S1024x2560_0_0).toLoadRect (harg13.unread xs0)
def ldPB : Vec F S32x2560 .bf16 :=
  View.readAt (Elt F) arg13.view (Rect.unit (s := S1056x2560) ![1024, 0] S32x2560.size inb_S1056x2560_S32x2560_1024_0).toLoadRect (harg13.unread xs0)
/-- The same, of a scratch the point has just filled. -/
def ldWA : Vec F S1024x2560 .bf16 :=
  arg13.view.readCov (wPieces' arg3 harg3 arg4 harg4 x1 x2 20) (Rect.unit (s := S1056x2560) ![0, 0] S1024x2560.size inb_S1056x2560_S1024x2560_0_0).toLoadRect
def ldPA : Vec F S32x2560 .bf16 :=
  arg13.view.readCov (wPieces' arg3 harg3 arg4 harg4 x1 x2 20) (Rect.unit (s := S1056x2560) ![1024, 0] S32x2560.size inb_S1056x2560_S32x2560_1024_0).toLoadRect

theorem listA_5 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).1 = qPieces (ldA arg2 harg2 x0 arg14) (ldWA arg3 harg3 arg4 harg4 arg13 x1 x2) (ldG arg5 harg5 x3) 48 := by
  sl_kernel_rfl

theorem listA_6 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.1 = qsPieces (ldA arg2 harg2 x0 arg14) (ldWA arg3 harg3 arg4 harg4 arg13 x1 x2) (ldG arg5 harg5 x3) 8 := by
  sl_kernel_rfl

theorem listA_7 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.1 = latPieces (ldA arg2 harg2 x0 arg14) (ldWA arg3 harg3 arg4 harg4 arg13 x1 x2) (ldK arg6 harg6 x4) 8 := by
  sl_kernel_rfl

theorem listA_8 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.1 = posPieces (ldA arg2 harg2 x0 arg14) (ldPA arg3 harg3 arg4 harg4 arg13 x1 x2) 8 := by
  sl_kernel_rfl

theorem listA_9 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.1 = codePieces arg2 harg2 x0 160 := by
  sl_kernel_rfl

theorem listA_10 (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.2.1 = scalePieces arg2 harg2 x0 8 := by
  sl_kernel_rfl

theorem listA_s (hc0 : cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 x0 x1 x2 x3 x4).2.2.2.2.2.2.1 = wPieces' arg3 harg3 arg4 harg4 x1 x2 20 := by
  sl_kernel_rfl

theorem listB_5 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).1 = qPieces (ldA arg2 harg2 x0 arg14) (ldWB arg13 harg13 xs0) (ldG arg5 harg5 x3) 48 := by
  sl_kernel_rfl

theorem listB_6 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).2.1 = qsPieces (ldA arg2 harg2 x0 arg14) (ldWB arg13 harg13 xs0) (ldG arg5 harg5 x3) 8 := by
  sl_kernel_rfl

theorem listB_7 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).2.2.1 = latPieces (ldA arg2 harg2 x0 arg14) (ldWB arg13 harg13 xs0) (ldK arg6 harg6 x4) 8 := by
  sl_kernel_rfl

theorem listB_8 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).2.2.2.1 = posPieces (ldA arg2 harg2 x0 arg14) (ldPB arg13 harg13 xs0) 8 := by
  sl_kernel_rfl

theorem listB_9 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).2.2.2.2.1 = codePieces arg2 harg2 x0 160 := by
  sl_kernel_rfl

theorem listB_10 (hc0 : ¬cond0_0 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0).2.2.2.2.2.1 = scalePieces arg2 harg2 x0 8 := by
  sl_kernel_rfl

end L

end Cert.Mla

end
-- ==== Proof.Scale.lean ====
/-
  The scale of one quantisation group, over the extended reals: the exponent the mathematics states
  (`⌊log₂ t⌋ + 1`, clamped, and `0` below the smallest normal) against the exponent counted from the powers of two
  that `t` reaches.
-/
module

public import Idealize.ShloMosaic.PureOps.Ideal

@[expose] public section

noncomputable section

namespace Cert.Mla

open Idealize.ShloMosaic

/-- The exponent of the scale for the quotient `t = max|v| / 448`: `⌊log₂ t⌋ + 1` clamped to `[-125, 120]`, `0` below
    the smallest normal number. -/
def refExp (t : EReal) : EReal :=
  if t < ((2 : ℝ) ^ (-126 : ℤ) : ℝ) then 0
  else min ((120 : ℝ) : EReal) (max ((-125 : ℝ) : EReal)
    (Ideal.liftRound Int.floor (Ideal.log t * (((Real.log 2)⁻¹ : ℝ) : EReal)) + 1))

/-- `exp2` at a whole number is that power of two. -/
theorem exp2_int (n : ℤ) : Ideal.exp2 (((n : ℝ)) : EReal) = (((2 : ℝ) ^ n : ℝ) : EReal) := by
  show ((Real.rpow 2 (n : ℝ) : ℝ) : EReal) = _
  congr 1
  exact Real.rpow_intCast 2 n

/-- The two cases of the exponent: `t` below the smallest normal number (exponent `0`), or `t` with its binade `n`,
    the last binade standing for everything above it (exponent `n + 1`). -/
theorem refExp_cases (t : EReal) :
    (t < ((2 : ℝ) ^ (-126 : ℤ) : ℝ) ∧ refExp t = 0) ∨
    (∃ n : ℤ, -126 ≤ n ∧ n ≤ 119 ∧ refExp t = (((n + 1 : ℤ) : ℝ) : EReal) ∧
      ∀ k : ℤ, k ≤ 119 → ((((2 : ℝ) ^ k : ℝ) : EReal) ≤ t ↔ k ≤ n)) := by
  by_cases ht : t < ((2 : ℝ) ^ (-126 : ℤ) : ℝ)
  · exact .inl ⟨ht, if_pos ht⟩
  right
  have hE : refExp t = _ := if_neg ht
  rw [not_lt] at ht
  induction t with
  | bot => simp at ht
  | top =>
    refine ⟨119, by norm_num, le_rfl, ?_, fun k hk => by simp [hk]⟩
    rw [hE]
    have h2 : (0 : ℝ) < (Real.log 2)⁻¹ := inv_pos.mpr (Real.log_pos (by norm_num))
    show min _ (max _ (Ideal.liftRound Int.floor ((⊤ : EReal) * _) + 1)) = _
    rw [EReal.top_mul_coe_of_pos h2]
    show min _ (max _ ((⊤ : EReal) + 1)) = _
    have : (⊤ : EReal) + 1 = ⊤ := EReal.top_add_of_ne_bot (by decide)
    rw [this, max_eq_right le_top, min_eq_left le_top]
    norm_num
  | coe r =>
    have hr : (2 : ℝ) ^ (-126 : ℤ) ≤ r := by exact_mod_cast ht
    have hr0 : 0 < r := lt_of_lt_of_le (by positivity) hr
    obtain ⟨m, hfl⟩ : ∃ m : ℤ, ⌊Real.log r * (Real.log 2)⁻¹⌋ = m := ⟨_, rfl⟩
    have hk : ∀ k : ℤ, (((2 : ℝ) ^ k : ℝ) : EReal) ≤ (r : EReal) ↔ k ≤ m := fun k => by
      rw [EReal.coe_le_coe_iff, ← hfl, Int.le_floor, ← div_eq_mul_inv, le_div_iff₀ (Real.log_pos (by norm_num)),
        ← Real.log_zpow, Real.log_le_log_iff (by positivity) hr0]
    have hm : -126 ≤ m := (hk _).mp ht
    refine ⟨min (m) 119, by omega, by omega, ?_, fun k hk' => by rw [hk]; omega⟩
    rw [hE]
    have hl : Ideal.log (r : EReal) = ((Real.log r : ℝ) : EReal) := by
      show (if r ≤ 0 then ⊥ else _) = _
      rw [if_neg (not_le.mpr hr0)]
    rw [hl, ← EReal.coe_mul]
    show min _ (max _ (((⌊Real.log r * (Real.log 2)⁻¹⌋ : ℝ) : EReal) + 1)) = _
    rw [hfl, show (1 : EReal) = ((1 : ℝ) : EReal) from rfl, ← EReal.coe_add]
    rw [← EReal.coe_strictMono.monotone.map_max, ← EReal.coe_strictMono.monotone.map_min]
    congr 1
    push_cast
    rw [max_eq_right (by have : ((-126 : ℤ) : ℝ) ≤ (m : ℝ) := by exact_mod_cast hm
                         push_cast at this; linarith)]
    rw [min_comm, ← min_add_add_right]
    norm_num

/-- Counting: the sum over `k < N` of one where `k < c` and zero elsewhere is `c`, for `c ≤ N`. -/
theorem sum_indicator {N c : ℕ} (hc : c ≤ N) (p : Fin N → Prop) [DecidablePred p] (hp : ∀ k, p k ↔ k.val < c) :
    (∑ k : Fin N, if p k then (1 : EReal) else 0) = ((c : ℝ) : EReal) := by
  have h : (∑ k : Fin N, if p k then (1 : EReal) else 0) = ((Finset.univ.filter p).card : EReal) := by
    rw [Finset.sum_ite]; simp
  have hcard : (Finset.univ.filter p).card = c := by
    have : (Finset.univ.filter p) = Finset.univ.filter (fun k : Fin N => k.val < c) := by
      ext k; simp [hp]
    rw [this, Fin.card_filter_val_lt, min_eq_right hc]
  rw [h, hcard]; rfl

/-- The conversion of a small count to a word is the count's word. -/
theorem fptosi_count {c : ℕ} (hc : c ≤ 255) : Ideal.fptosi 32 ((c : ℝ) : EReal) = BitVec.ofNat 32 c := by
  show BitVec.ofInt 32 (max _ (min _ (if (0 : ℝ) ≤ (c : ℝ) then ⌊(c : ℝ)⌋ else _))) = _
  rw [if_pos (by positivity), Int.floor_natCast, min_eq_right (by push_cast; omega), max_eq_right (by push_cast; omega)]
  exact BitVec.ofInt_natCast 32 c

/-- The value of a bfloat16 word of exponent field `c` (neither all zeros nor all ones), no fraction and no sign. -/
theorem ofBits_bf16_pow (w : BitVec 16) (c : ℕ) (hs : (w.extractLsb' 15 1 == 1#1) = false)
    (he : (w.extractLsb' 7 8).toNat = c) (hf : (w.extractLsb' 0 7).toNat = 0) (h0 : 0 < c) (h1 : c < 255) :
    Ideal.ofBits .bf16 w = (((2 : ℝ) ^ ((c : ℤ) - 127) : ℝ) : EReal) := by
  have h8 : (2 : ℕ) ^ 8 - 1 = 255 := by norm_num
  simp only [Ideal.ofBits, Ideal.ieee, hs, he, hf]
  rw [if_neg (by omega), if_neg (by omega)]
  congr 1
  have hz : (2 : ℝ) ^ ((c : ℤ) - 127) = (2 : ℝ) ^ (7 : ℤ) * (2 : ℝ) ^ ((c : ℤ) - 127 - 7) := by
    rw [← zpow_add₀ (by norm_num)]; congr 1; ring
  rw [hz]; norm_num

/-- The value of a float32 word of exponent field `c` (neither all zeros nor all ones), no fraction and no sign. -/
theorem ofBits_f32_pow (w : BitVec 32) (c : ℕ) (hs : (w.extractLsb' 31 1 == 1#1) = false)
    (he : (w.extractLsb' 23 8).toNat = c) (hf : (w.extractLsb' 0 23).toNat = 0) (h0 : 0 < c) (h1 : c < 255) :
    Ideal.ofBits .f32 w = (((2 : ℝ) ^ ((c : ℤ) - 127) : ℝ) : EReal) := by
  have h8 : (2 : ℕ) ^ 8 - 1 = 255 := by norm_num
  simp only [Ideal.ofBits, Ideal.ieee, hs, he, hf]
  rw [if_neg (by omega), if_neg (by omega)]
  congr 1
  have hz : (2 : ℝ) ^ ((c : ℤ) - 127) = (2 : ℝ) ^ (23 : ℤ) * (2 : ℝ) ^ ((c : ℤ) - 127 - 23) := by
    rw [← zpow_add₀ (by norm_num)]; congr 1; ring
  rw [hz]; norm_num

/-! ## The words of the kernel, read at one element -/

/-- The word of the threshold `k + 1` of the bfloat16 count. -/
def thWord16 (k : ℕ) : BitVec 16 :=
  (IntOp.subi (IntOp.shli .vector (IntOp.addi (BitVec.ofNat 32 k) 1#32) 7#32) 32#32).setWidth 16

/-- The word of the scale from the count of thresholds reached (bfloat16). -/
def scaleWord16 (n : BitVec 32) : BitVec 16 :=
  Scalar.select (IntOp.cmpi .slt ((IntOp.shli .vector n 7#32).setWidth 16) 1280#16) 16256#16
    (IntOp.subi ((IntOp.shli .vector n 7#32).setWidth 16) 1024#16)

/-- The count of the thresholds that `a` reaches (bfloat16), as the sum the kernel takes. -/
def count16 (a : EReal) : EReal :=
  ∑ k : Fin 255, Scalar.select (Ideal.cmp .oge a (Ideal.ofBits .bf16 (thWord16 k.val)))
    (Ideal.ofBits .f32 0x3F800000#32) (Ideal.ofBits .f32 0x00000000#32)

/-- The word of the threshold `k + 1` of the float32 count. -/
def thWord32 (k : ℕ) : BitVec 32 := IntOp.shli .vector (IntOp.addi (BitVec.ofNat 32 k) 1#32) 23#32

/-- The word of the scale from the count of thresholds reached (float32). -/
def scaleWord32 (n : BitVec 32) : BitVec 32 :=
  Scalar.select (IntOp.cmpi .eq (IntOp.shli .vector n 23#32) 0#32) 1065353216#32
    (IntOp.addi (IntOp.shli .vector n 23#32) 8388608#32)

/-- The count of the thresholds that `t` reaches (float32), as the sum the kernel takes. -/
def count32 (t : EReal) : EReal :=
  ∑ k : Fin 246, Scalar.select (Ideal.cmp .oge t (Ideal.ofBits .f32 (thWord32 k.val)))
    (Ideal.ofBits .f32 0x3F800000#32) (Ideal.ofBits .f32 0x00000000#32)

theorem one_f32 : Ideal.ofBits .f32 0x3F800000#32 = 1 := by
  rw [ofBits_f32_pow _ 127 (by decide) (by decide) (by decide) (by decide) (by decide)]; norm_num

theorem zero_f32 : Ideal.ofBits .f32 0x00000000#32 = 0 := by simp [Ideal.ofBits, Ideal.ieee]

theorem v448_f32 : Ideal.ofBits .f32 0x43E00000#32 = ((448 : ℝ) : EReal) := by
  have hs : ((0x43E00000#32).extractLsb' 31 1 == 1#1) = false := by decide
  have he : ((0x43E00000#32).extractLsb' 23 8).toNat = 135 := by decide
  have hf : ((0x43E00000#32).extractLsb' 0 23).toNat = 6291456 := by decide
  simp only [Ideal.ofBits, Ideal.ieee, hs, he, hf]
  rw [if_neg (by norm_num), if_neg (by norm_num)]
  congr 1
  norm_num

/-- A sum of selected ones and zeros by a comparison, as a sum of an indicator. -/
theorem count_eq {N c : ℕ} (hc : c ≤ N) (a : EReal) (th : Fin N → EReal) (h : ∀ k, th k ≤ a ↔ k.val < c) :
    (∑ k : Fin N, Scalar.select (Ideal.cmp .oge a (th k)) (Ideal.ofBits .f32 0x3F800000#32)
      (Ideal.ofBits .f32 0x00000000#32)) = ((c : ℝ) : EReal) := by
  rw [← sum_indicator hc (fun k => th k ≤ a) h]
  refine Finset.sum_congr rfl fun k _ => ?_
  rw [one_f32, zero_f32]
  by_cases hk : th k ≤ a <;> simp [Scalar.select, Ideal.cmp, hk]

/-! ### float32 -/

theorem thWord32_val (k : Fin 246) :
    Ideal.ofBits .f32 (thWord32 k.val) = (((2 : ℝ) ^ (((k.val + 1 : ℕ) : ℤ) - 127) : ℝ) : EReal) :=
  ofBits_f32_pow _ _ ((by decide : ∀ k : Fin 246, ((thWord32 k.val).extractLsb' 31 1 == 1#1) = false) k)
    ((by decide : ∀ k : Fin 246, ((thWord32 k.val).extractLsb' 23 8).toNat = k.val + 1) k)
    ((by decide : ∀ k : Fin 246, ((thWord32 k.val).extractLsb' 0 23).toNat = 0) k) (by omega) (by omega)

/-- The exponent field of the scale, from the count. -/
def field32 (c : ℕ) : ℕ := if c = 0 then 127 else c + 1

theorem scaleWord32_val (c : Fin 247) :
    Ideal.ofBits .f32 (scaleWord32 (BitVec.ofNat 32 c.val)) = (((2 : ℝ) ^ ((field32 c.val : ℤ) - 127) : ℝ) : EReal) :=
  ofBits_f32_pow _ _
    ((by decide : ∀ c : Fin 247, ((scaleWord32 (BitVec.ofNat 32 c.val)).extractLsb' 31 1 == 1#1) = false) c)
    ((by decide : ∀ c : Fin 247, ((scaleWord32 (BitVec.ofNat 32 c.val)).extractLsb' 23 8).toNat = field32 c.val) c)
    ((by decide : ∀ c : Fin 247, ((scaleWord32 (BitVec.ofNat 32 c.val)).extractLsb' 0 23).toNat = 0) c)
    (by unfold field32; split <;> omega) (by have := c.isLt; unfold field32; split <;> omega)

theorem invWord32_val (c : Fin 247) :
    Ideal.ofBits .f32 (IntOp.subi 2130706432#32 (scaleWord32 (BitVec.ofNat 32 c.val)))
      = (((2 : ℝ) ^ (((254 - field32 c.val : ℕ) : ℤ) - 127) : ℝ) : EReal) :=
  ofBits_f32_pow _ _
    ((by decide : ∀ c : Fin 247,
      ((IntOp.subi 2130706432#32 (scaleWord32 (BitVec.ofNat 32 c.val))).extractLsb' 31 1 == 1#1) = false) c)
    ((by decide : ∀ c : Fin 247,
      ((IntOp.subi 2130706432#32 (scaleWord32 (BitVec.ofNat 32 c.val))).extractLsb' 23 8).toNat = 254 - field32 c.val) c)
    ((by decide : ∀ c : Fin 247,
      ((IntOp.subi 2130706432#32 (scaleWord32 (BitVec.ofNat 32 c.val))).extractLsb' 0 23).toNat = 0) c)
    (by have := c.isLt; unfold field32; split <;> omega) (by unfold field32; split <;> omega)

/-- The count of the thresholds reached, with the exponent it stands for. -/
theorem count32_cases (t : EReal) : ∃ c : Fin 247, count32 t = ((c.val : ℝ) : EReal) ∧
    refExp t = ((((field32 c.val : ℤ) - 127 : ℤ) : ℝ) : EReal) := by
  rcases refExp_cases t with ⟨hlt, he⟩ | ⟨n, hn1, hn2, he, hk⟩
  · refine ⟨0, count_eq (Nat.zero_le _) t _ fun k => ?_, by rw [he]; simp [field32]⟩
    rw [thWord32_val]
    refine ⟨fun h => absurd (lt_of_le_of_lt h hlt) (not_lt.mpr ?_), fun h => absurd h (by simp)⟩
    exact EReal.coe_le_coe_iff.mpr (zpow_le_zpow_right₀ (by norm_num) (by push_cast; omega))
  · refine ⟨⟨(n + 127).toNat, by omega⟩, count_eq (by simp only; omega) t _ fun k => ?_, ?_⟩
    · rw [thWord32_val, hk _ (by have := k.isLt; push_cast; omega)]
      push_cast; omega
    · rw [he]; congr 2
      have : field32 (n + 127).toNat = (n + 127).toNat + 1 := if_neg (by omega)
      simp only [this]; push_cast; omega

/-- The scale that the kernel's float32 count gives is two to the stated exponent. -/
theorem scale32_eq (t : EReal) :
    Ideal.ofBits .f32 (scaleWord32 (Ideal.fptosi 32 (count32 t))) = Ideal.exp2 (refExp t) := by
  obtain ⟨c, hc, he⟩ := count32_cases t
  rw [hc, fptosi_count (by omega), scaleWord32_val, he, exp2_int]

/-- The reciprocal scale that the kernel's float32 count gives is two to minus the stated exponent. -/
theorem inv32_eq (t : EReal) :
    Ideal.ofBits .f32 (IntOp.subi 2130706432#32 (scaleWord32 (Ideal.fptosi 32 (count32 t))))
      = Ideal.exp2 (0 - refExp t) := by
  obtain ⟨c, hc, he⟩ := count32_cases t
  have h0 : (0 : EReal) - ((((field32 c.val : ℤ) - 127 : ℤ) : ℝ) : EReal)
      = ((((254 - field32 c.val : ℕ) : ℤ) - 127 : ℤ) : ℝ) := by
    rw [show (0 : EReal) = ((0 : ℝ) : EReal) from rfl, ← EReal.coe_sub]
    congr 1
    have : field32 c.val ≤ 254 := by have := c.isLt; unfold field32; split <;> omega
    push_cast [this]; ring
  rw [hc, fptosi_count (by omega), invWord32_val, he, h0, exp2_int]

/-! ### bfloat16 -/

/-- The thresholds from the second on: seven quarters of a power of two. -/
theorem thWord16_val (k : Fin 255) (h : 0 < k.val) :
    Ideal.ofBits .bf16 (thWord16 k.val) = ((448 * (2 : ℝ) ^ ((k.val : ℤ) - 135) : ℝ) : EReal) := by
  have hs := (by decide : ∀ k : Fin 255, ((thWord16 k.val).extractLsb' 15 1 == 1#1) = false) k
  have he := (by decide : ∀ k : Fin 255, ((thWord16 k.val).extractLsb' 7 8).toNat = k.val) k
  have hf := (by decide : ∀ k : Fin 255, ((thWord16 k.val).extractLsb' 0 7).toNat = 96) k
  have h8 : (2 : ℕ) ^ 8 - 1 = 255 := by norm_num
  have := k.isLt
  simp only [Ideal.ofBits, Ideal.ieee, hs, he, hf]
  rw [if_neg (by omega), if_neg (by omega)]
  congr 1
  have hz : (2 : ℝ) ^ ((k.val : ℤ) - 135) * 2 = (2 : ℝ) ^ ((k.val : ℤ) - 127 - 7) := by
    rw [← zpow_add_one₀ (by norm_num)]; congr 1; ring
  have h7 : ((k.val : ℤ) - (2 ^ (8 - 1) - 1) - (7 : ℕ)) = (k.val : ℤ) - 127 - 7 := by norm_num
  rw [h7, ← hz]; norm_num; ring

/-- The first threshold lies below the second. -/
theorem thWord16_zero : Ideal.ofBits .bf16 (thWord16 0) ≤ ((448 * (2 : ℝ) ^ (-134 : ℤ) : ℝ) : EReal) := by
  have hw : thWord16 0 = 96#16 := by decide
  have hs : ((96#16).extractLsb' 15 1 == 1#1) = false := by decide
  have he : ((96#16).extractLsb' 7 8).toNat = 0 := by decide
  have hf : ((96#16).extractLsb' 0 7).toNat = 96 := by decide
  rw [hw]
  simp only [Ideal.ofBits, Ideal.ieee, hs, he, hf]
  rw [if_neg (by norm_num), if_pos trivial]
  refine EReal.coe_le_coe_iff.mpr ?_
  norm_num

/-- The exponent field of the scale, from the count. -/
def field16 (c : ℕ) : ℕ := if c < 10 then 127 else c - 8

theorem scaleWord16_val (c : Fin 256) :
    Ideal.ofBits .bf16 (scaleWord16 (BitVec.ofNat 32 c.val)) = (((2 : ℝ) ^ ((field16 c.val : ℤ) - 127) : ℝ) : EReal) :=
  ofBits_bf16_pow _ _
    ((by decide : ∀ c : Fin 256, ((scaleWord16 (BitVec.ofNat 32 c.val)).extractLsb' 15 1 == 1#1) = false) c)
    ((by decide : ∀ c : Fin 256, ((scaleWord16 (BitVec.ofNat 32 c.val)).extractLsb' 7 8).toNat = field16 c.val) c)
    ((by decide : ∀ c : Fin 256, ((scaleWord16 (BitVec.ofNat 32 c.val)).extractLsb' 0 7).toNat = 0) c)
    (by unfold field16; split <;> omega) (by have := c.isLt; unfold field16; split <;> omega)

theorem invWord16_val (c : Fin 256) :
    Ideal.ofBits .bf16 (IntOp.subi 32512#16 (scaleWord16 (BitVec.ofNat 32 c.val)))
      = (((2 : ℝ) ^ (((254 - field16 c.val : ℕ) : ℤ) - 127) : ℝ) : EReal) :=
  ofBits_bf16_pow _ _
    ((by decide : ∀ c : Fin 256,
      ((IntOp.subi 32512#16 (scaleWord16 (BitVec.ofNat 32 c.val))).extractLsb' 15 1 == 1#1) = false) c)
    ((by decide : ∀ c : Fin 256,
      ((IntOp.subi 32512#16 (scaleWord16 (BitVec.ofNat 32 c.val))).extractLsb' 7 8).toNat = 254 - field16 c.val) c)
    ((by decide : ∀ c : Fin 256,
      ((IntOp.subi 32512#16 (scaleWord16 (BitVec.ofNat 32 c.val))).extractLsb' 0 7).toNat = 0) c)
    (by have := c.isLt; unfold field16; split <;> omega) (by unfold field16; split <;> omega)

/-- The quotient by 448, and comparing with 448 times a power of two. -/
theorem le_div_448 (a : EReal) (r : ℝ) :
    ((448 * r : ℝ) : EReal) ≤ a ↔ ((r : ℝ) : EReal) ≤ Ideal.div a (Ideal.ofBits .f32 0x43E00000#32) := by
  have h448 : ((448 : ℝ) : EReal) ≠ 0 := by
    intro h; have := EReal.coe_eq_zero.mp h; norm_num at this
  rw [v448_f32, Ideal.div, if_neg h448, ← EReal.coe_inv]
  induction a with
  | bot =>
    rw [EReal.bot_mul_coe_of_pos (by norm_num), le_bot_iff, le_bot_iff]
    exact iff_of_false (EReal.coe_ne_bot _) (EReal.coe_ne_bot _)
  | top => rw [EReal.top_mul_coe_of_pos (by norm_num)]; simp
  | coe x =>
    rw [← EReal.coe_mul, EReal.coe_le_coe_iff, EReal.coe_le_coe_iff, ← div_eq_mul_inv, le_div_iff₀ (by norm_num), mul_comm]

/-- A count of an initial segment: when what is reached is closed downwards, the count is a number below which
    everything is reached and from which nothing is. -/
theorem count16_cases (a : EReal) : ∃ c : Fin 256, count16 a = ((c.val : ℝ) : EReal) ∧
    refExp (Ideal.div a (Ideal.ofBits .f32 0x43E00000#32)) = ((((field16 c.val : ℤ) - 127 : ℤ) : ℝ) : EReal) := by
  -- what is reached is an initial segment
  have hmono : ∀ k j : Fin 255, k.val ≤ j.val →
      Ideal.ofBits .bf16 (thWord16 k.val) ≤ Ideal.ofBits .bf16 (thWord16 j.val) := by
    intro k j hkj
    by_cases hj : j.val = 0
    · rw [show k = j from Fin.ext (by omega)]
    by_cases hk : k.val = 0
    · rw [hk, thWord16_val j (by omega)]
      refine thWord16_zero.trans (EReal.coe_le_coe_iff.mpr (mul_le_mul_of_nonneg_left ?_ (by norm_num)))
      exact zpow_le_zpow_right₀ (by norm_num) (by omega)
    · rw [thWord16_val k (by omega), thWord16_val j (by omega)]
      exact EReal.coe_le_coe_iff.mpr (mul_le_mul_of_nonneg_left
        (zpow_le_zpow_right₀ (by norm_num) (by omega)) (by norm_num))
  classical
  let P : ℕ → Prop := fun c => ∀ h : c < 255, ¬ Ideal.ofBits .bf16 (thWord16 c) ≤ a
  have hP : ∃ c, P c := ⟨255, fun h => absurd h (by omega)⟩
  set c := Nat.find hP with hcdef
  have hc255 : c ≤ 255 := Nat.find_min' hP (fun h => absurd h (by omega))
  have hseg : ∀ k : Fin 255, Ideal.ofBits .bf16 (thWord16 k.val) ≤ a ↔ k.val < c := by
    intro k
    constructor
    · intro h
      by_contra hle
      have hcl : c < 255 := by omega
      exact Nat.find_spec hP hcl ((hmono ⟨c, hcl⟩ k (by simp only; omega)).trans h)
    · intro h
      have := Nat.find_min hP h
      simp only [P, not_forall, not_not] at this
      exact this.2
  refine ⟨⟨c, by omega⟩, count_eq hc255 a _ hseg, ?_⟩
  rcases refExp_cases (Ideal.div a (Ideal.ofBits .f32 0x43E00000#32)) with ⟨hlt, he⟩ | ⟨n, hn1, hn2, he, hk⟩
  · have h9 : c < 10 := by
      by_contra h10
      have h := (hseg ⟨9, by omega⟩).mpr (by simp only; omega)
      rw [thWord16_val ⟨9, by omega⟩ (by simp only; omega), le_div_448] at h
      norm_num at h hlt
      exact absurd (lt_of_le_of_lt h hlt) (lt_irrefl _)
    rw [he]; simp [field16, h9]
  · have hval : ∀ k : Fin 255, 0 < k.val → (k.val < c ↔ (k.val : ℤ) - 135 ≤ n) := fun k h0 => by
      rw [← hseg k, thWord16_val k h0, le_div_448, hk _ (by have := k.isLt; omega)]
    have hcn : (c : ℤ) = n + 136 := by
      have h1 := hval ⟨(n + 135).toNat, by omega⟩ (by simp only; omega)
      simp only at h1
      have h1' : (n + 135).toNat < c := h1.mpr (by omega)
      by_contra hne
      have h2 := hval ⟨(n + 136).toNat, by omega⟩ (by simp only; omega)
      simp only at h2
      have := h2.mp (by omega)
      omega
    rw [he]; congr 2
    have : field16 c = c - 8 := if_neg (by omega)
    simp only [this]; omega

/-- The scale that the kernel's bfloat16 count gives is two to the stated exponent. -/
theorem scale16_eq (a : EReal) :
    Ideal.ofBits .bf16 (scaleWord16 (Ideal.fptosi 32 (count16 a)))
      = Ideal.exp2 (refExp (Ideal.div a (Ideal.ofBits .f32 0x43E00000#32))) := by
  obtain ⟨c, hc, he⟩ := count16_cases a
  rw [hc, fptosi_count (by omega), scaleWord16_val, he, exp2_int]

/-- The reciprocal scale that the kernel's bfloat16 count gives is two to minus the stated exponent. -/
theorem inv16_eq (a : EReal) :
    Ideal.ofBits .bf16 (IntOp.subi 32512#16 (scaleWord16 (Ideal.fptosi 32 (count16 a))))
      = Ideal.exp2 (0 - refExp (Ideal.div a (Ideal.ofBits .f32 0x43E00000#32))) := by
  obtain ⟨c, hc, he⟩ := count16_cases a
  have h0 : (0 : EReal) - ((((field16 c.val : ℤ) - 127 : ℤ) : ℝ) : EReal)
      = ((((254 - field16 c.val : ℕ) : ℤ) - 127 : ℤ) : ℝ) := by
    rw [show (0 : EReal) = ((0 : ℝ) : EReal) from rfl, ← EReal.coe_sub]
    congr 1
    have : field16 c.val ≤ 254 := by have := c.isLt; unfold field16; split <;> omega
    push_cast [this]; ring
  rw [hc, fptosi_count (by omega), invWord16_val, he, h0, exp2_int]

end Cert.Mla
end
end
-- ==== Proof.Spec.lean ====
/- What both programs compute, row by row: a row of 2560 activations is quantised by groups of 128, the dequantised row
   is multiplied by the dequantised weights, and the products are normed, quantised again or kept. -/
module

public import proofs.«01_k».proof.Proof.Scale

@[expose] public section

set_option maxRecDepth 16384

noncomputable section

namespace Cert.Mla

open Idealize.ShloMosaic

/-! ## Constants -/

theorem ninf16 : Ideal.ofBits .bf16 0xFF80#16 = ⊥ := by
  have hs : ((0xFF80#16).extractLsb' 15 1 == 1#1) = true := by decide
  have he : ((0xFF80#16).extractLsb' 7 8).toNat = 255 := by decide
  have hf : ((0xFF80#16).extractLsb' 0 7).toNat = 0 := by decide
  simp only [Ideal.ofBits, Ideal.ieee, hs, he, hf]
  norm_num

theorem ninf32 : Ideal.ofBits .f32 0xFF800000#32 = ⊥ := by
  have hs : ((0xFF800000#32).extractLsb' 31 1 == 1#1) = true := by decide
  have he : ((0xFF800000#32).extractLsb' 23 8).toNat = 255 := by decide
  have hf : ((0xFF800000#32).extractLsb' 0 23).toNat = 0 := by decide
  simp only [Ideal.ofBits, Ideal.ieee, hs, he, hf]
  norm_num

theorem tiny_f32 : Ideal.ofBits .f32 0x00800000#32 = (((2 : ℝ) ^ (-126 : ℤ) : ℝ) : EReal) := by
  rw [ofBits_f32_pow _ 1 (by decide) (by decide) (by decide) (by decide) (by decide)]; norm_num

theorem v120_f32 : Ideal.ofBits .f32 0x42F00000#32 = ((120 : ℝ) : EReal) := by
  have hs : ((0x42F00000#32).extractLsb' 31 1 == 1#1) = false := by decide
  have he : ((0x42F00000#32).extractLsb' 23 8).toNat = 133 := by decide
  have hf : ((0x42F00000#32).extractLsb' 0 23).toNat = 7340032 := by decide
  simp only [Ideal.ofBits, Ideal.ieee, hs, he, hf]
  rw [if_neg (by norm_num), if_neg (by norm_num)]
  norm_num

theorem m125_f32 : Ideal.ofBits .f32 0xC2FA0000#32 = ((-125 : ℝ) : EReal) := by
  have hs : ((0xC2FA0000#32).extractLsb' 31 1 == 1#1) = true := by decide
  have he : ((0xC2FA0000#32).extractLsb' 23 8).toNat = 133 := by decide
  have hf : ((0xC2FA0000#32).extractLsb' 0 23).toNat = 7995392 := by decide
  simp only [Ideal.ofBits, Ideal.ieee, hs, he, hf]
  rw [if_neg (by norm_num), if_neg (by norm_num)]
  norm_num

/-- A choice by a comparison's bit is the choice by the comparison. -/
theorem select_oge (a b x y : EReal) : Scalar.select (Ideal.cmp .oge a b) x y = if b ≤ a then x else y := by
  show (if BitVec.ofBool (decide (b ≤ a)) = 1#1 then x else y) = _
  by_cases h : b ≤ a <;> simp [h]

theorem count16_ite (a : EReal) :
    count16 a = ∑ k : Fin 255, if Ideal.ofBits .bf16 (thWord16 k.val) ≤ a then 1 else 0 :=
  Finset.sum_congr rfl fun k _ => by rw [select_oge, one_f32, zero_f32]

theorem count32_ite (a : EReal) :
    count32 a = ∑ k : Fin 246, if Ideal.ofBits .f32 (thWord32 k.val) ≤ a then 1 else 0 :=
  Finset.sum_congr rfl fun k _ => by rw [select_oge, one_f32, zero_f32]

/-! ## One row -/

/-- The bound of a group: the largest of its absolute values. -/
def amax (v : Fin 128 → EReal) : EReal := (Finset.univ : Finset (Fin 128)).fold max ⊥ fun j => max (v j) (-(v j))

/-- The code of a value under the exponent that `t` gives. -/
def code (t v : EReal) : EReal :=
  min (Ideal.ofBits .f32 0x43E00000#32) (max (Ideal.ofBits .f32 0xC3E00000#32) (v * Ideal.exp2 (0 - refExp t)))

/-- Group `g` of a row of `128 n` values. -/
def grp {n : ℕ} (X : Fin (128 * n) → EReal) (g : Fin n) : Fin 128 → EReal := fun j => X ⟨128 * g.val + j.val, by omega⟩

/-- The group that lane `d` of `2560` lies in. -/
def gX (d : Fin 2560) : Fin 20 := ⟨d.val / 128, by omega⟩
/-- The group that lane `d` of `768` lies in. -/
def gQ (d : Fin 768) : Fin 6 := ⟨d.val / 128, by omega⟩

/-- The scaled bound of group `g` of an activation row. -/
def tX (X : Fin 2560 → EReal) (g : Fin 20) : EReal := Ideal.div (amax (grp (n := 20) X g)) (Ideal.ofBits .f32 0x43E00000#32)
/-- Its scale. -/
def sXs (X : Fin 2560 → EReal) (g : Fin 20) : EReal := Ideal.exp2 (refExp (tX X g))
/-- The activation codes. -/
def sXc (X : Fin 2560 → EReal) (d : Fin 2560) : EReal := code (tX X (gX d)) (X d)
/-- The dequantised activations. -/
def sXA (X : Fin 2560 → EReal) (d : Fin 2560) : EReal := sXc X d * sXs X (gX d)

/-- The dequantised weights. -/
def sW (w : Fin 1056 → Fin 2560 → EReal) (s : Fin 9 → Fin 20 → EReal) (n : Fin 1056) (d : Fin 2560) : EReal :=
  w n d * s ⟨n.val / 128, by omega⟩ (gX d)

/-- The product. -/
def sY (X : Fin 2560 → EReal) (W : Fin 1056 → Fin 2560 → EReal) (n : Fin 1056) : EReal := ∑ d : Fin 2560, sXA X d * W n d

/-- The reciprocal root mean square of `n` values. -/
def rms {n : ℕ} (y : Fin n → EReal) (c : EReal) : EReal :=
  Ideal.rsqrt (Ideal.div (∑ k : Fin n, y k * y k) c + Ideal.ofBits .f32 0x358637BD#32)

/-- The 768 product lanes that are quantised again. -/
def yQ (X : Fin 2560 → EReal) (W : Fin 1056 → Fin 2560 → EReal) (q : Fin 768) : EReal := sY X W ⟨q.val, by omega⟩
/-- The 256 latent lanes. -/
def yK (X : Fin 2560 → EReal) (W : Fin 1056 → Fin 2560 → EReal) (k : Fin 256) : EReal := sY X W ⟨768 + k.val, by omega⟩
/-- The 32 position lanes. -/
def sPos (X : Fin 2560 → EReal) (W : Fin 1056 → Fin 2560 → EReal) (p : Fin 32) : EReal := sY X W ⟨1024 + p.val, by omega⟩

/-- The normed latent lanes. -/
def sLat (X : Fin 2560 → EReal) (W : Fin 1056 → Fin 2560 → EReal) (gk : Fin 256 → EReal) (k : Fin 256) : EReal :=
  yK X W k * rms (yK X W) (Ideal.ofBits .f32 0x43800000#32) * gk k

/-- The normed lanes that are quantised again. -/
def sU (X : Fin 2560 → EReal) (W : Fin 1056 → Fin 2560 → EReal) (gq : Fin 768 → EReal) (q : Fin 768) : EReal :=
  yQ X W q * rms (yQ X W) (Ideal.ofBits .f32 0x44400000#32) * gq q

/-- The scaled bound of a group of them. -/
def tQ (U : Fin 768 → EReal) (g : Fin 6) : EReal := amax (grp (n := 6) U g) * Ideal.ofBits .f32 0x3B124925#32
/-- Its scale. -/
def sQs (U : Fin 768 → EReal) (g : Fin 6) : EReal := Ideal.exp2 (refExp (tQ U g))
/-- Their codes. -/
def sQc (U : Fin 768 → EReal) (q : Fin 768) : EReal := code (tQ U (gQ q)) (U q)

end Cert.Mla

end
-- ==== Proof.KernelRows.lean ====
/- The kernel's vector functions read at an index, at extended reals: each is the row function of `Spec`. -/
module

public import proofs.«01_k».proof.Proof.Pieces
public import proofs.«01_k».proof.Proof.Spec
public import Idealize.ShloMosaic.Lib.Pointwise

@[expose] public section

set_option maxRecDepth 16384

noncomputable section

namespace Cert.Mla

open Cert.KernelIdeal Cert.KernelIdeal.Gen Idealize.ShloMosaic

/-! ## The quantiser of the activations -/

/-- The scale word of a row of one group. -/
theorem word16_val (v : Vec Ideal S1x128x128 .bf16) (r : Fin 128) (z : Fin 1) :
    k0_pay233 v (ix2 r z) = scaleWord16 (Ideal.fptosi 32 (count16 (amax fun j => v (ix3 0 r j)))) := by
  pointwise [k0_pay233, k0_pay232]
  rw [count16_ite, amax, ← ninf16]
  rfl

/-- The scale of a row of one group. -/
theorem scale16_val (v : Vec Ideal S1x128x128 .bf16) (r : Fin 128) (z : Fin 1) :
    Ideal.ofBits .bf16 (k0_pay233 v (ix2 r z))
      = Ideal.exp2 (refExp (Ideal.div (amax fun j => v (ix3 0 r j)) (Ideal.ofBits .f32 0x43E00000#32))) := by
  rw [word16_val, scale16_eq]

/-- The codes of one group. -/
theorem code16_val (v : Vec Ideal S1x128x128 .bf16) (r l : Fin 128) (z : Fin 1) :
    k0_pay236 (F := Ideal) (k0_pay232 v) (k0_pay233 v) (ix3 z r l)
      = code (Ideal.div (amax fun j => v (ix3 0 r j)) (Ideal.ofBits .f32 0x43E00000#32)) (v (ix3 0 r l)) := by
  pointwise [k0_pay236, k0_pay235, k0_pay232]
  rw [word16_val, inv16_eq]
  rfl

/-- The dequantised values of one group. -/
theorem act16_val (v : Vec Ideal S1x128x128 .bf16) (r l : Fin 128) :
    k0_pay237 (F := Ideal) (k0_pay232 v) (k0_pay233 v) (ix2 r l)
      = code (Ideal.div (amax fun j => v (ix3 0 r j)) (Ideal.ofBits .f32 0x43E00000#32)) (v (ix3 0 r l))
        * Ideal.exp2 (refExp (Ideal.div (amax fun j => v (ix3 0 r j)) (Ideal.ofBits .f32 0x43E00000#32))) := by
  pointwise [k0_pay237, k0_pay235, k0_pay232, k0_pay234]
  rw [scale16_val, word16_val, inv16_eq]
  rfl

/-- Lane `l` of the matrix of scales after `n` groups. -/
theorem scaleX_val (wd : ℕ → IVec S128x1 16) (r l : Fin 128) :
    ∀ n, n ≤ 128 → l.val < n → scaleX (F := Ideal) wd n (ix2 r l) = Ideal.ofBits .bf16 (wd l.val (ix2 r 0))
  | 0, _, h => absurd h (Nat.not_lt_zero _)
  | g + 1, hn, h => by
    have step : scaleX (F := Ideal) wd (g + 1) (ix2 r l)
        = Scalar.select (IntOp.cmpi .eq (BitVec.ofNat 16 l.val) (BitVec.ofNat 16 g)) (Ideal.ofBits .bf16 (wd g (ix2 r 0)))
            (scaleX (F := Ideal) wd g (ix2 r l)) := by
      pointwise [scaleX, k0_pay234, kernelRun0_B.sl.v6]
    rw [step]
    have hsel : ∀ x y : EReal, Scalar.select (IntOp.cmpi .eq (BitVec.ofNat 16 l.val) (BitVec.ofNat 16 g)) x y
        = if l.val = g then x else y := by
      intro x y
      show (if BitVec.ofBool (decide (BitVec.ofNat 16 l.val = BitVec.ofNat 16 g)) = 1#1 then x else y) = _
      have : (BitVec.ofNat 16 l.val = BitVec.ofNat 16 g) ↔ l.val = g := by
        refine ⟨fun h => ?_, fun h => by rw [h]⟩
        have := congrArg BitVec.toNat h
        rw [BitVec.toNat_ofNat, BitVec.toNat_ofNat, Nat.mod_eq_of_lt (by omega), Nat.mod_eq_of_lt (by omega)] at this
        exact this
      by_cases hl : l.val = g <;> simp [this, hl]
    rw [hsel]
    by_cases hl : l.val = g
    · rw [if_pos hl, hl]
    · rw [if_neg hl]; exact scaleX_val wd r l g (by omega) (by omega)

/-- Row `g` of the turned matrix. -/
theorem turnX_val (M : FVec Ideal S128x128 .bf16) (g : Fin 20) (r : Fin 128) (z : Fin 1) :
    turnX (F := Ideal) M (ix3 g z r) = M (ix2 r ⟨g.val, by omega⟩) := by
  pointwise [turnX]

/-! ## The second quantiser -/

/-- The scaled bound of a row of one group. -/
def tV (u : FVec Ideal S128x128 .f32) (r : Fin 128) : EReal := amax (fun j => u (ix2 r j)) * Ideal.ofBits .f32 0x3B124925#32

theorem word32_val (u : FVec Ideal S128x128 .f32) (r : Fin 128) (z : Fin 1) :
    k0_pay413 (F := Ideal) (reachQ u) (ix2 r z) = scaleWord32 (Ideal.fptosi 32 (count32 (tV u r))) := by
  pointwise [k0_pay413, reachQ]
  rw [count32_ite, tV, amax, ← ninf32]
  rfl

theorem code32_val (u : FVec Ideal S128x128 .f32) (r l : Fin 128) (z : Fin 1) :
    k0_pay414 (F := Ideal) u (reachQ u) (ix3 z r l) = code (tV u r) (u (ix2 r l)) := by
  pointwise [k0_pay414]
  rw [word32_val, inv32_eq]
  rfl

theorem scaleQ_val (u : ℕ → FVec Ideal S128x128 .f32) (r l : Fin 128) :
    ∀ n, n ≤ 128 → l.val < n → scaleQ (F := Ideal) u n (ix2 r l) = Ideal.exp2 (refExp (tV (u l.val) r))
  | 0, _, h => absurd h (Nat.not_lt_zero _)
  | g + 1, hn, h => by
    have step : scaleQ (F := Ideal) u (g + 1) (ix2 r l)
        = Scalar.select (IntOp.cmpi .eq (BitVec.ofNat 32 l.val) (BitVec.ofNat 32 g))
            (Ideal.ofBits .f32 (k0_pay413 (F := Ideal) (reachQ (u g)) (ix2 r 0)))
            (scaleQ (F := Ideal) u g (ix2 r l)) := by
      pointwise [scaleQ, kernelRun0_B.sl.v1230]
    rw [step, word32_val, scale32_eq]
    have hsel : ∀ x y : EReal, Scalar.select (IntOp.cmpi .eq (BitVec.ofNat 32 l.val) (BitVec.ofNat 32 g)) x y
        = if l.val = g then x else y := by
      intro x y
      show (if BitVec.ofBool (decide (BitVec.ofNat 32 l.val = BitVec.ofNat 32 g)) = 1#1 then x else y) = _
      have : (BitVec.ofNat 32 l.val = BitVec.ofNat 32 g) ↔ l.val = g := by
        refine ⟨fun h => ?_, fun h => by rw [h]⟩
        have := congrArg BitVec.toNat h
        rw [BitVec.toNat_ofNat, BitVec.toNat_ofNat, Nat.mod_eq_of_lt (by omega), Nat.mod_eq_of_lt (by omega)] at this
        exact this
      by_cases hl : l.val = g <;> simp [this, hl]
    rw [hsel]
    by_cases hl : l.val = g
    · rw [if_pos hl, hl]
    · rw [if_neg hl]; exact scaleQ_val u r l g (by omega) (by omega)

theorem turnQ_val (M : FVec Ideal S128x128 .f32) (g : Fin 6) (r : Fin 128) (z : Fin 1) :
    turnQ (F := Ideal) M (ix3 g z r) = M (ix2 r ⟨g.val, by omega⟩) := by
  pointwise [turnQ]

/-! ## The product and the norms -/

theorem normQ_val (y : FVec Ideal S128x768 .f32) (g : ℕ) (gq : Vec Ideal S1x128 .f32) (r l : Fin 128) :
    normQ (F := Ideal) y g gq (ix2 r l)
      = y (ix2 r ⟨128 * (g % 6) + l.val, by omega⟩) * rms (fun k : Fin 768 => y (ix2 r k)) (Ideal.ofBits .f32 0x44400000#32)
        * gq (ix2 0 l) := by
  pointwise [normQ, k0_pay409]
  rfl

theorem prodQ_val (xa : Vec Ideal S128x2560 .bf16) (w : Vec Ideal S1024x2560 .bf16) (r : Fin 128) (q : Fin 768) :
    k0_pay406 (F := Ideal) xa w (ix2 r q) = ∑ d : Fin 2560, xa (ix2 r d) * w (ix2 ⟨q.val, by omega⟩ d) := by
  pointwise [k0_pay406, k0_pay404]

theorem lat_val (xa : Vec Ideal S128x2560 .bf16) (w : Vec Ideal S1024x2560 .bf16) (gk : Vec Ideal S1x256 .f32)
    (r : Fin 128) (k : Fin 256) (z : Fin 1) :
    k0_pay408 (F := Ideal) (k0_pay407 xa w) gk (ix3 z r k)
      = (∑ d : Fin 2560, xa (ix2 r d) * w (ix2 ⟨768 + k.val, by omega⟩ d))
        * rms (fun k : Fin 256 => ∑ d : Fin 2560, xa (ix2 r d) * w (ix2 ⟨768 + k.val, by omega⟩ d)) (Ideal.ofBits .f32 0x43800000#32)
        * gk (ix2 0 k) := by
  pointwise [k0_pay408, k0_pay407, k0_pay404]
  rfl

theorem pos_val (xa : Vec Ideal S128x2560 .bf16) (w : Vec Ideal S32x2560 .bf16) (p : Fin 32) (r : Fin 128) (z : Fin 1) :
    k0_pay405 (F := Ideal) xa w (ix3 z p r) = ∑ d : Fin 2560, xa (ix2 r d) * w (ix2 p d) := by
  pointwise [k0_pay405]
  exact Finset.sum_congr rfl fun d _ => mul_comm _ _

theorem deq_val (v : Vec Ideal S128x128 .fp8e4m3) (s : Elt Ideal .f32) (r l : Fin 128) :
    k0_pay205 (F := Ideal) v s (ix2 r l) = v (ix2 r l) * s := by
  pointwise [k0_pay205]

theorem deq_val' (v : Vec Ideal S32x128 .fp8e4m3) (s : Elt Ideal .f32) (r : Fin 32) (l : Fin 128) :
    k0_pay206 (F := Ideal) v s (ix2 r l) = v (ix2 r l) * s := by
  pointwise [k0_pay206]

end Cert.Mla

end
-- ==== Proof.KernelBlocks.lean ====
/- What one grid point leaves in each output block, as a function of the blocks it reads. -/
module

public import proofs.«01_k».proof.Proof.KernelRows
public import Idealize.ShloMosaic.Lib.Pipeline.ReadBack

@[expose] public section

set_option maxRecDepth 16384

noncomputable section

namespace Cert.Mla

open Cert.KernelIdeal Cert.KernelIdeal.Gen Idealize.ShloMosaic Idealize.ShloMosaic.TcCoe

/-- Row `(b, r)` of a block of activations. -/
def rowX (x0 : Vec Ideal S8x128x2560 .bf16) (b : Fin 8) (r : Fin 128) : Fin 2560 → EReal := fun d => x0 (ix3 b r d)

/-- The index of a unit-stride rectangle, coordinate by coordinate. -/
theorem emb_unit3 {n0 n1 n2 m0 m1 m2 : ℕ} (o0 o1 o2 : ℕ) (inb) (x : Fin m0) (y : Fin m1) (z : Fin m2)
    (h0 : o0 + x.val < n0) (h1 : o1 + y.val < n1) (h2 : o2 + z.val < n2) :
    (Rect.unit (s := ⟨3, ![n0, n1, n2]⟩) ![o0, o1, o2] (⟨3, ![m0, m1, m2]⟩ : Shape).size inb).emb (ix3 x y z)
      = ix3 ⟨o0 + x.val, h0⟩ ⟨o1 + y.val, h1⟩ ⟨o2 + z.val, h2⟩ := by
  funext a
  apply Fin.ext
  match a with
  | 0 => show o0 + 1 * x.val = o0 + x.val; omega
  | 1 => show o1 + 1 * y.val = o1 + y.val; omega
  | 2 => show o2 + 1 * z.val = o2 + z.val; omega

theorem emb_unit2 {n0 n1 m0 m1 : ℕ} (o0 o1 : ℕ) (inb) (x : Fin m0) (y : Fin m1)
    (h0 : o0 + x.val < n0) (h1 : o1 + y.val < n1) :
    (Rect.unit (s := ⟨2, ![n0, n1]⟩) ![o0, o1] (⟨2, ![m0, m1]⟩ : Shape).size inb).emb (ix2 x y)
      = ix2 ⟨o0 + x.val, h0⟩ ⟨o1 + y.val, h1⟩ := by
  funext a
  apply Fin.ext
  match a with
  | 0 => show o0 + 1 * x.val = o0 + x.val; omega
  | 1 => show o1 + 1 * y.val = o1 + y.val; omega

section X
variable (arg2 : Memref sig .tc .vmem S8x128x2560 .bf16) (harg2 : arg2.IsWhole) (x0 : Vec Ideal S8x128x2560 .bf16)

theorem ldX_val (n : ℕ) (z : Fin 1) (r l : Fin 128) :
    ldX arg2 harg2 x0 n (ix3 z r l) = x0 (ix3 ⟨n / 20 % 8, lt8 _⟩ r ⟨128 * (n % 20) + l.val, by omega⟩) := by
  unfold ldX
  rw [View.readAt_eq_ld, harg2.read_unread]
  show x0 ((Rect.unit (s := S8x128x2560) ![n / 20 % 8, 0, 128 * (n % 20)] S1x128x128.size _).emb (ix3 z r l)) = _
  rw [emb_unit3 _ _ _ _ _ _ _ (by omega) (by omega) (by omega)]
  congr 1
  funext a
  apply Fin.ext
  match a with
  | 0 => show n / 20 % 8 + z.val = n / 20 % 8; omega
  | 1 => show 0 + r.val = r.val; omega
  | 2 => rfl

/-- The bound of a loaded group is that of the row's group. -/
theorem tX_ldX (n : ℕ) (r : Fin 128) :
    Ideal.div (amax fun j => ldX arg2 harg2 x0 n (ix3 0 r j)) (Ideal.ofBits .f32 0x43E00000#32)
      = tX (rowX x0 ⟨n / 20 % 8, lt8 _⟩ r) ⟨n % 20, lt20 _⟩ := by
  unfold tX
  congr 2
  funext j
  exact ldX_val arg2 harg2 x0 n 0 r j

theorem gX_mk (g l : ℕ) (hl : l < 128) (h : 128 * g + l < 2560) : gX ⟨128 * g + l, h⟩ = ⟨g, by omega⟩ := by
  apply Fin.ext; show (128 * g + l) / 128 = g; omega

/-- The block of activation codes. -/
def blkXc : S8x128x2560.Idx → EReal := fun y => sXc (rowX x0 (y 0) (y 1)) (y 2)
/-- The block of activation scales. -/
def blkXs : S20x8x128.Idx → EReal := fun y => sXs (rowX x0 (y 1) (y 2)) (y 0)

theorem codePieces_of : ∀ n, View.PiecesOf (Val := Elt Ideal) (e := .fp8e4m3) (blkXc x0) (codePieces (F := Ideal) arg2 harg2 x0 n)
  | 0 => trivial
  | n + 1 => by
    refine ⟨fun x => ?_, codePieces_of n⟩
    obtain ⟨z, r, l, rfl⟩ : ∃ (z : Fin 1) (r l : Fin 128), x = ix3 z r l := ⟨x 0, x 1, x 2, eq_ix3 x⟩
    show k0_pay236 (F := Ideal) _ (k0_pay233 _) (ix3 z r l) = _
    rw [code16_val, tX_ldX, ldX_val]
    show _ = blkXc x0 ((Rect.unit (s := S8x128x2560) ![n / 20 % 8, 0, 128 * (n % 20)] S1x128x128.size (inbX _ _ (lt8 _) (lt20 _))).emb (ix3 z r l))
    rw [emb_unit3 _ _ _ _ _ _ _ (by omega) (by omega) (by omega)]
    show _ = code (tX (rowX x0 ⟨n / 20 % 8 + z.val, _⟩ ⟨0 + r.val, _⟩) (gX ⟨128 * (n % 20) + l.val, _⟩)) (x0 _)
    have hz : z = 0 := Subsingleton.elim _ _
    subst hz
    rw [gX_mk _ _ l.isLt]
    simp only [Nat.zero_add]
    rfl

theorem scalePieces_of : ∀ n, View.PiecesOf (Val := Elt Ideal) (e := .f32) (blkXs x0) (scalePieces (F := Ideal) arg2 harg2 x0 n)
  | 0 => trivial
  | b + 1 => by
    refine ⟨fun x => ?_, scalePieces_of b⟩
    obtain ⟨g, z, r, rfl⟩ : ∃ (g : Fin 20) (z : Fin 1) (r : Fin 128), x = ix3 g z r := ⟨x 0, x 1, x 2, eq_ix3 x⟩
    show turnX (F := Ideal) _ (ix3 g z r) = _
    rw [turnX_val, scaleX_val _ _ _ 20 (by omega) g.isLt]
    show Ideal.ofBits .bf16 (k0_pay233 _ (ix2 r 0)) = _
    rw [scale16_val, tX_ldX]
    show _ = blkXs x0 ((Rect.unit (s := S20x8x128) ![0, b % 8, 0] S20x1x128.size (inbXS _ (lt8 _))).emb (ix3 g z r))
    rw [emb_unit3 _ _ _ _ _ _ _ (by omega) (by omega) (by omega)]
    show Ideal.exp2 (refExp (tX (rowX x0 ⟨(20 * b + g.val) / 20 % 8, _⟩ r) ⟨(20 * b + g.val) % 20, _⟩))
      = Ideal.exp2 (refExp (tX (rowX x0 ⟨b % 8 + z.val, _⟩ ⟨0 + r.val, _⟩) ⟨0 + g.val, _⟩))
    have e1 : (20 * b + g.val) / 20 % 8 = b % 8 + z.val := by omega
    have e2 : (20 * b + g.val) % 20 = 0 + g.val := by omega
    simp only [e1, e2, Nat.zero_add]

/-- The scratch once `k` groups of batch `b` are stored. -/
theorem canon_act (b : ℕ) (hb : b < 8) (r : Fin 128) (d : Fin 2560) :
    ∀ k, k ≤ 20 → d.val < 128 * k →
      View.canon (Val := Elt Ideal) (e := .bf16) (actPieces (F := Ideal) arg2 harg2 x0 (20 * b + k)) (ix2 r d) = sXA (rowX x0 ⟨b, hb⟩ r) d
  | 0, _, h => absurd h (Nat.not_lt_zero _)
  | k + 1, hk, h => by
    have e2 : (20 * b + k) % 20 = k := by omega
    by_cases hd : d.val < 128 * k
    · show View.canon (Val := Elt Ideal) (e := .bf16) (⟨Rect.unit (s := S128x2560) ![0, 128 * ((20 * b + k) % 20)] S128x128.size (inbA _ (lt20 _)), _⟩ :: actPieces (F := Ideal) arg2 harg2 x0 (20 * b + k)) (ix2 r d) = _
      rw [View.canon_cons_of_not_mem]
      · exact canon_act b hb r d k (by omega) hd
      · intro hm
        have hm' : ix2 r d ∈ (Rect.unit (s := S128x2560) ![0, 128 * ((20 * b + k) % 20)] S128x128.size (inbA _ (lt20 _))).set := hm
        have h1 : 128 * ((20 * b + k) % 20) ≤ d.val := (Rect.mem_set_unit.mp hm' 1).1
        omega
    · have hl : d.val - 128 * k < 128 := by omega
      have he : ix2 r d = (Rect.unit (s := S128x2560) ![0, 128 * ((20 * b + k) % 20)] S128x128.size (inbA _ (lt20 _))).emb (ix2 r (⟨d.val - 128 * k, hl⟩ : Fin 128)) := by
        rw [emb_unit2 _ _ _ _ _ (by omega) (by show 128 * ((20 * b + k) % 20) + (d.val - 128 * k) < 2560; omega)]
        funext a
        apply Fin.ext
        match a with
        | 0 => show r.val = 0 + r.val; omega
        | 1 => show d.val = 128 * ((20 * b + k) % 20) + (d.val - 128 * k); omega
      rw [he]
      show View.canon (Val := Elt Ideal) (e := .bf16) (⟨Rect.unit (s := S128x2560) ![0, 128 * ((20 * b + k) % 20)] S128x128.size (inbA _ (lt20 _)), _⟩ :: actPieces (F := Ideal) arg2 harg2 x0 (20 * b + k)) _ = _
      rw [View.canon_cons_emb]
      show k0_pay237 (F := Ideal) (k0_pay232 (ldX arg2 harg2 x0 (20 * b + k))) (k0_pay233 (ldX arg2 harg2 x0 (20 * b + k))) (ix2 r _) = _
      rw [act16_val, tX_ldX, ldX_val]
      have e1 : (20 * b + k) / 20 % 8 = b := by omega
      have e3 : 128 * k + (d.val - 128 * k) = d.val := by omega
      have e4 : gX d = ⟨k, by omega⟩ := by apply Fin.ext; show d.val / 128 = k; omega
      simp only [e1, e2, e3]
      unfold sXA sXc sXs
      rw [e4]
      rfl

/-- The load of the whole scratch. -/
theorem ldA_val (arg14 : Memref sig .tc .vmem S128x2560 .bf16) (b : ℕ) (hb : b < 8) (r : Fin 128) (d : Fin 2560) :
    ldA arg2 harg2 x0 arg14 b (ix2 r d) = sXA (rowX x0 ⟨b, hb⟩ r) d := by
  unfold ldA
  rw [View.readCov_eq_canon']
  show View.canon _ ((Rect.unit (s := S128x2560) ![0, 0] S128x2560.size _).emb (ix2 r d)) = _
  rw [emb_unit2 _ _ _ _ _ (by omega) (by omega)]
  simp only [Nat.zero_add]
  exact canon_act arg2 harg2 x0 b hb r d 20 (le_refl _) (by omega)

end X

end Cert.Mla

end
-- ==== Proof.KernelProduct.lean ====
/- The stores of the product's results and of the dequantised weights, as functions of the blocks a grid point reads. -/
module

public import proofs.«01_k».proof.Proof.KernelBlocks

@[expose] public section

set_option maxRecDepth 16384

noncomputable section

namespace Cert.Mla

open Cert.KernelIdeal Cert.KernelIdeal.Gen Idealize.ShloMosaic Idealize.ShloMosaic.TcCoe

/-! ## The dequantised weights -/

section W
variable (arg3 : Memref sig .tc .vmem S1056x2560 .fp8e4m3) (harg3 : arg3.IsWhole) (arg4 : Memref sig .tc .smem S9x20 .f32) (harg4 : arg4.IsWhole)
  (x1 : Vec Ideal S1056x2560 .fp8e4m3) (x2 : Vec Ideal S9x20 .f32)

/-- The dequantised weights of a block of codes and its scales. -/
def wOf : Fin 1056 → Fin 2560 → EReal := sW (fun n d => x1 (ix2 n d)) (fun j g => x2 (ix2 j g))

/-- The same, as the scratch holds them. -/
def scrW : S1056x2560.Idx → EReal := fun y => wOf x1 x2 (y 0) (y 1)

theorem ldS_val (j g : ℕ) (hj : j < 9) (hg : g < 20) : ldS arg4 harg4 x2 j g hj hg = x2 (ix2 ⟨j, hj⟩ ⟨g, hg⟩) := by
  unfold ldS
  rw [View.readAt_eq_ld, harg4.read_unread]
  show x2 ((Rect.unit (s := S9x20) ![j, g] S1x1.size (inbS j g hj hg)).emb _) = _
  congr 1
  funext a
  apply Fin.ext
  match a with
  | 0 => show j + 1 * 0 = j; omega
  | 1 => show g + 1 * 0 = g; omega

theorem wPieces_of : ∀ n, View.PiecesOf (Val := Elt Ideal) (e := .bf16) (scrW x1 x2) (wPieces (F := Ideal) arg3 harg3 arg4 harg4 x1 x2 n)
  | 0 => trivial
  | n + 1 => by
    refine ⟨fun x => ?_, wPieces_of n⟩
    obtain ⟨r, l, rfl⟩ : ∃ (r l : Fin 128), x = ix2 r l := ⟨x 0, x 1, eq_ix2 x⟩
    show k0_pay205 (F := Ideal) _ _ (ix2 r l) = _
    rw [deq_val, ldS_val, View.readAt_eq_ld, harg3.read_unread]
    show x1 ((Rect.unit (s := S1056x2560) ![128 * (n / 20 % 8), 128 * (n % 20)] S128x128.size (inbW _ _ (lt8 _) (lt20 _))).emb (ix2 r l)) * _
      = scrW x1 x2 ((Rect.unit (s := S1056x2560) ![128 * (n / 20 % 8), 128 * (n % 20)] S128x128.size (inbW _ _ (lt8 _) (lt20 _))).emb (ix2 r l))
    rw [emb_unit2 _ _ _ _ _ (by omega) (by omega)]
    show x1 _ * x2 _ = x1 _ * x2 _
    congr 2
    funext a
    apply Fin.ext
    match a with
    | 0 => show n / 20 % 8 = (128 * (n / 20 % 8) + r.val) / 128; omega
    | 1 => show n % 20 = (128 * (n % 20) + l.val) / 128; omega

theorem wPieces'_of : ∀ n, View.PiecesOf (Val := Elt Ideal) (e := .bf16) (scrW x1 x2) (wPieces' (F := Ideal) arg3 harg3 arg4 harg4 x1 x2 n)
  | 0 => wPieces_of arg3 harg3 arg4 harg4 x1 x2 160
  | n + 1 => by
    refine ⟨fun x => ?_, wPieces'_of n⟩
    obtain ⟨r, l, rfl⟩ : ∃ (r : Fin 32) (l : Fin 128), x = ix2 r l := ⟨x 0, x 1, eq_ix2 x⟩
    show k0_pay206 (F := Ideal) _ _ (ix2 r l) = _
    rw [deq_val', ldS_val, View.readAt_eq_ld, harg3.read_unread]
    show x1 ((Rect.unit (s := S1056x2560) ![1024, 128 * (n % 20)] S32x128.size (inbW' _ (lt20 _))).emb (ix2 r l)) * _
      = scrW x1 x2 ((Rect.unit (s := S1056x2560) ![1024, 128 * (n % 20)] S32x128.size (inbW' _ (lt20 _))).emb (ix2 r l))
    rw [emb_unit2 _ _ _ _ _ (by omega) (by omega)]
    show x1 _ * x2 _ = x1 _ * x2 _
    congr 2
    funext a
    apply Fin.ext
    match a with
    | 0 => show 8 = (1024 + r.val) / 128; omega
    | 1 => show n % 20 = (128 * (n % 20) + l.val) / 128; omega

end W

/-! ## The product, the norms, the second quantiser -/

/-- The rows of the weights that the main product reads, and those of the position lanes. -/
def wLo (n : Fin 1024) : Fin 1056 := ⟨n.val, by omega⟩
def wHi (p : Fin 32) : Fin 1056 := ⟨1024 + p.val, by omega⟩
/-- Lane `l` of group `g` of the 768 lanes. -/
def qLane (g : ℕ) (hg : g < 6) (l : Fin 128) : Fin 768 := ⟨128 * g + l.val, by omega⟩

section Y
variable (x0 : Vec Ideal S8x128x2560 .bf16) (W : Fin 1056 → Fin 2560 → EReal) (x3 : Vec Ideal S1x768 .f32) (x4 : Vec Ideal S1x256 .f32)

/-- The normed lanes of row `(b, r)` that are quantised again. -/
def rowU (b : Fin 8) (r : Fin 128) : Fin 768 → EReal := sU (rowX x0 b r) W (fun q => x3 (ix2 0 q))

/-- The block of codes, of their scales, of latent lanes and of position lanes. -/
def blkQc : S8x128x768.Idx → EReal := fun y => sQc (rowU x0 W x3 (y 0) (y 1)) (y 2)
def blkQs : S6x8x128.Idx → EReal := fun y => sQs (rowU x0 W x3 (y 1) (y 2)) (y 0)
def blkLat : S8x128x256.Idx → EReal := fun y => sLat (rowX x0 (y 0) (y 1)) W (fun k => x4 (ix2 0 k)) (y 2)
def blkPos : S8x32x128.Idx → EReal := fun y => sPos (rowX x0 (y 0) (y 2)) W (y 1)

variable (xa : ℕ → Vec Ideal S128x2560 .bf16) (w : Vec Ideal S1024x2560 .bf16) (wp : Vec Ideal S32x2560 .bf16) (gq : ℕ → Vec Ideal S1x128 .f32) (gk : Vec Ideal S1x256 .f32)
  (hxa : ∀ b (hb : b < 8) r d, xa b (ix2 r d) = sXA (rowX x0 ⟨b, hb⟩ r) d)
  (hw : ∀ (n : Fin 1024) d, w (ix2 n d) = W (wLo n) d)
  (hwp : ∀ (p : Fin 32) d, wp (ix2 p d) = W (wHi p) d)
  (hgq : ∀ g (hg : g < 6) (l : Fin 128), gq g (ix2 0 l) = x3 (ix2 0 (qLane g hg l)))
  (hgk : ∀ k, gk (ix2 0 k) = x4 (ix2 0 k))

include hxa hw hgk in
theorem latPieces_of : ∀ n, n ≤ 8 → View.PiecesOf (Val := Elt Ideal) (e := .bf16) (blkLat x0 W x4) (latPieces (F := Ideal) xa w gk n)
  | 0, _ => trivial
  | b + 1, hn => by
    refine ⟨fun x => ?_, latPieces_of b (by omega)⟩
    obtain ⟨z, r, k, rfl⟩ : ∃ (z : Fin 1) (r : Fin 128) (k : Fin 256), x = ix3 z r k := ⟨x 0, x 1, x 2, eq_ix3 x⟩
    show k0_pay408 (F := Ideal) (k0_pay407 (xa b) w) gk (ix3 z r k) = _
    rw [lat_val, hgk]
    simp only [hxa b (by omega), hw]
    show _ = blkLat x0 W x4 ((Rect.unit (s := S8x128x256) ![b % 8, 0, 0] S1x128x256.size (inbKV _ (lt8 _))).emb (ix3 z r k))
    rw [emb_unit3 _ _ _ _ _ _ _ (by omega) (by omega) (by omega)]
    have e : b % 8 + z.val = b := by omega
    simp only [e, Nat.zero_add]
    rfl

include hxa hwp in
theorem posPieces_of : ∀ n, n ≤ 8 → View.PiecesOf (Val := Elt Ideal) (e := .bf16) (blkPos x0 W) (posPieces (F := Ideal) xa wp n)
  | 0, _ => trivial
  | b + 1, hn => by
    refine ⟨fun x => ?_, posPieces_of b (by omega)⟩
    obtain ⟨z, p, r, rfl⟩ : ∃ (z : Fin 1) (p : Fin 32) (r : Fin 128), x = ix3 z p r := ⟨x 0, x 1, x 2, eq_ix3 x⟩
    show k0_pay405 (F := Ideal) (xa b) wp (ix3 z p r) = _
    rw [pos_val]
    simp only [hxa b (by omega), hwp]
    show _ = blkPos x0 W ((Rect.unit (s := S8x32x128) ![b % 8, 0, 0] S1x32x128.size (inbPE _ (lt8 _))).emb (ix3 z p r))
    rw [emb_unit3 _ _ _ _ _ _ _ (by omega) (by omega) (by omega)]
    have e : b % 8 + z.val = b := by omega
    simp only [e, Nat.zero_add]
    rfl

include hxa hw hgq in
theorem uQ_val (b g : ℕ) (hb : b < 8) (hg : g < 6) (r l : Fin 128) :
    uQ (F := Ideal) xa w gq b g (ix2 r l) = grp (n := 6) (rowU x0 W x3 ⟨b, hb⟩ r) ⟨g, hg⟩ l := by
  have e : g % 6 = g := by omega
  unfold uQ
  rw [normQ_val]
  simp only [prodQ_val, hxa b hb, hw, e]
  rw [hgq g hg]
  rfl

include hxa hw hgq in
theorem tV_uQ (b g : ℕ) (hb : b < 8) (hg : g < 6) (r : Fin 128) :
    tV (uQ (F := Ideal) xa w gq b g) r = tQ (rowU x0 W x3 ⟨b, hb⟩ r) ⟨g, hg⟩ := by
  unfold tV tQ
  congr 2
  funext j
  exact uQ_val x0 W x3 xa w gq hxa hw hgq b g hb hg r j

include hxa hw hgq in
theorem qPieces_of : ∀ n, n ≤ 48 → View.PiecesOf (Val := Elt Ideal) (e := .fp8e4m3) (blkQc x0 W x3) (qPieces (F := Ideal) xa w gq n)
  | 0, _ => trivial
  | n + 1, hn => by
    refine ⟨fun x => ?_, qPieces_of n (by omega)⟩
    obtain ⟨z, r, l, rfl⟩ : ∃ (z : Fin 1) (r l : Fin 128), x = ix3 z r l := ⟨x 0, x 1, x 2, eq_ix3 x⟩
    have hb : n / 6 < 8 := by omega
    have hg : n % 6 < 6 := lt6 n
    show k0_pay414 (F := Ideal) (uQ xa w gq (n / 6) (n % 6)) (reachQ (uQ xa w gq (n / 6) (n % 6))) (ix3 z r l) = _
    rw [code32_val, tV_uQ x0 W x3 xa w gq hxa hw hgq _ _ hb hg, uQ_val x0 W x3 xa w gq hxa hw hgq _ _ hb hg]
    show _ = blkQc x0 W x3 ((Rect.unit (s := S8x128x768) ![n / 6 % 8, 0, 128 * (n % 6)] S1x128x128.size (inbQ _ _ (lt8 _) (lt6 _))).emb (ix3 z r l))
    rw [emb_unit3 _ _ _ _ _ _ _ (by omega) (by omega) (by omega)]
    show _ = code (tQ (rowU x0 W x3 ⟨n / 6 % 8 + z.val, _⟩ ⟨0 + r.val, _⟩) (gQ ⟨128 * (n % 6) + l.val, _⟩)) (rowU x0 W x3 ⟨n / 6 % 8 + z.val, _⟩ ⟨0 + r.val, _⟩ ⟨128 * (n % 6) + l.val, _⟩)
    have e : n / 6 % 8 + z.val = n / 6 := by omega
    have eg : gQ ⟨128 * (n % 6) + l.val, by omega⟩ = ⟨n % 6, hg⟩ := by
      apply Fin.ext; show (128 * (n % 6) + l.val) / 128 = n % 6; omega
    rw [eg]
    simp only [e, Nat.zero_add]
    rfl

include hxa hw hgq in
theorem qsPieces_of : ∀ n, n ≤ 8 → View.PiecesOf (Val := Elt Ideal) (e := .f32) (blkQs x0 W x3) (qsPieces (F := Ideal) xa w gq n)
  | 0, _ => trivial
  | b + 1, hn => by
    refine ⟨fun x => ?_, qsPieces_of b (by omega)⟩
    obtain ⟨g, z, r, rfl⟩ : ∃ (g : Fin 6) (z : Fin 1) (r : Fin 128), x = ix3 g z r := ⟨x 0, x 1, x 2, eq_ix3 x⟩
    show turnQ (F := Ideal) (scaleQ (uQ xa w gq b) 6) (ix3 g z r) = _
    rw [turnQ_val, scaleQ_val _ _ _ 6 (by omega) g.isLt, tV_uQ x0 W x3 xa w gq hxa hw hgq _ _ (by omega) g.isLt]
    show _ = blkQs x0 W x3 ((Rect.unit (s := S6x8x128) ![0, b % 8, 0] S6x1x128.size (inbQS _ (lt8 _))).emb (ix3 g z r))
    rw [emb_unit3 _ _ _ _ _ _ _ (by omega) (by omega) (by omega)]
    have e : b % 8 + z.val = b := by omega
    simp only [e, Nat.zero_add]
    rfl

end Y

end Cert.Mla

end
-- ==== Proof.KernelOuts.lean ====
/- What the stores of one grid point leave, whole blocks at a time, in both cases of the kernel. -/
module

public import proofs.«01_k».proof.Proof.KernelProduct
public import proofs.«01_k».proof.Proof.Gen.KernelIdeal.Value

@[expose] public section

set_option maxRecDepth 16384

noncomputable section

namespace Cert.Mla

open Cert.KernelIdeal Cert.KernelIdeal.Gen Idealize.ShloMosaic Idealize.ShloMosaic.TcCoe

/-- Stores that are blocks of one function and cover the buffer leave that function. -/
theorem canon_eq {s : Shape} {e : EltTy} (G : s.Idx → Elt Ideal e) (L : List (View.Piece (Elt Ideal) s e)) (h : View.PiecesOf G L)
    (hc : ∀ y, ∃ p ∈ L, y ∈ p.1.set) : View.canon L = G :=
  funext fun y => View.canon_apply_of_pieces G L h.mem y (hc y)

section X
variable (arg2 : Memref sig .tc .vmem S8x128x2560 .bf16) (harg2 : arg2.IsWhole) (x0 : Vec Ideal S8x128x2560 .bf16)

theorem canon_code : View.canon (codePieces (F := Ideal) arg2 harg2 x0 160) = blkXc x0 :=
  canon_eq (e := .fp8e4m3) _ _ (codePieces_of arg2 harg2 x0 160) (View.cover_of_tiledL _ S1x128x128.size (by sl_kernel_rfl))

theorem canon_scale : View.canon (scalePieces (F := Ideal) arg2 harg2 x0 8) = blkXs x0 :=
  canon_eq (e := .f32) _ _ (scalePieces_of arg2 harg2 x0 8) (View.cover_of_tiledL _ S20x1x128.size (by sl_kernel_rfl))
end X

section W
variable (arg3 : Memref sig .tc .vmem S1056x2560 .fp8e4m3) (harg3 : arg3.IsWhole) (arg4 : Memref sig .tc .smem S9x20 .f32) (harg4 : arg4.IsWhole)
  (x1 : Vec Ideal S1056x2560 .fp8e4m3) (x2 : Vec Ideal S9x20 .f32)

theorem canon_w : View.canon (wPieces' (F := Ideal) arg3 harg3 arg4 harg4 x1 x2 20) = scrW x1 x2 :=
  canon_eq (e := .bf16) _ _ (wPieces'_of arg3 harg3 arg4 harg4 x1 x2 20) (View.cover_of_tiledBy _ ![32, 128] (by sl_kernel_rfl))

variable (arg13 : Memref sig .tc .vmem S1056x2560 .bf16) (harg13 : arg13.IsWhole)

/-- The rows that a product reads, out of a scratch that holds `W`. -/
theorem ldWA_val (n : Fin 1024) (d : Fin 2560) :
    ldWA arg3 harg3 arg4 harg4 arg13 x1 x2 (ix2 n d) = wOf x1 x2 (wLo n) d := by
  unfold ldWA
  rw [View.readCov_eq_canon', canon_w]
  show scrW x1 x2 ((Rect.unit (s := S1056x2560) ![0, 0] S1024x2560.size _).emb (ix2 n d)) = _
  rw [emb_unit2 _ _ _ _ _ (by omega) (by omega)]
  simp only [Nat.zero_add]
  rfl

theorem ldPA_val (p : Fin 32) (d : Fin 2560) :
    ldPA arg3 harg3 arg4 harg4 arg13 x1 x2 (ix2 p d) = wOf x1 x2 (wHi p) d := by
  unfold ldPA
  rw [View.readCov_eq_canon', canon_w]
  show scrW x1 x2 ((Rect.unit (s := S1056x2560) ![1024, 0] S32x2560.size _).emb (ix2 p d)) = _
  rw [emb_unit2 _ _ _ _ _ (by omega) (by omega)]
  simp only [Nat.zero_add]
  rfl

theorem ldWB_val (xs0 : Vec Ideal S1056x2560 .bf16) (n : Fin 1024) (d : Fin 2560) :
    ldWB arg13 harg13 xs0 (ix2 n d) = xs0 (ix2 (wLo n) d) := by
  unfold ldWB
  rw [View.readAt_eq_ld, harg13.read_unread]
  show xs0 ((Rect.unit (s := S1056x2560) ![0, 0] S1024x2560.size _).emb (ix2 n d)) = _
  rw [emb_unit2 _ _ _ _ _ (by omega) (by omega)]
  simp only [Nat.zero_add]
  rfl

theorem ldPB_val (xs0 : Vec Ideal S1056x2560 .bf16) (p : Fin 32) (d : Fin 2560) :
    ldPB arg13 harg13 xs0 (ix2 p d) = xs0 (ix2 (wHi p) d) := by
  unfold ldPB
  rw [View.readAt_eq_ld, harg13.read_unread]
  show xs0 ((Rect.unit (s := S1056x2560) ![1024, 0] S32x2560.size _).emb (ix2 p d)) = _
  rw [emb_unit2 _ _ _ _ _ (by omega) (by omega)]
  simp only [Nat.zero_add]
  rfl

end W

section G
variable (arg5 : Memref sig .tc .vmem S1x768 .f32) (harg5 : arg5.IsWhole) (arg6 : Memref sig .tc .vmem S1x256 .f32) (harg6 : arg6.IsWhole)
  (x3 : Vec Ideal S1x768 .f32) (x4 : Vec Ideal S1x256 .f32)

theorem ldG_val (g : ℕ) (hg : g < 6) (l : Fin 128) : ldG arg5 harg5 x3 g (ix2 0 l) = x3 (ix2 0 (qLane g hg l)) := by
  unfold ldG
  rw [View.readAt_eq_ld, harg5.read_unread]
  show x3 ((Rect.unit (s := S1x768) ![0, 128 * (g % 6)] S1x128.size (inbG _ (lt6 _))).emb (ix2 0 l)) = _
  rw [emb_unit2 _ _ _ _ _ (by decide) (by omega)]
  congr 1
  funext a
  apply Fin.ext
  match a with
  | 0 => rfl
  | 1 => show 128 * (g % 6) + l.val = 128 * g + l.val; omega

theorem ldK_val (k : Fin 256) : ldK arg6 harg6 x4 (ix2 0 k) = x4 (ix2 0 k) := by
  unfold ldK
  rw [View.readAt_eq_ld, harg6.read_unread]
  show x4 ((Rect.unit (s := S1x256) ![0, 0] S1x256.size _).emb (ix2 0 k)) = _
  rw [emb_unit2 _ _ _ _ _ (by decide) (by omega)]
  simp only [Nat.zero_add]

end G

section Y
variable (x0 : Vec Ideal S8x128x2560 .bf16) (W : Fin 1056 → Fin 2560 → EReal) (x3 : Vec Ideal S1x768 .f32) (x4 : Vec Ideal S1x256 .f32)
variable (xa : ℕ → Vec Ideal S128x2560 .bf16) (w : Vec Ideal S1024x2560 .bf16) (wp : Vec Ideal S32x2560 .bf16) (gq : ℕ → Vec Ideal S1x128 .f32) (gk : Vec Ideal S1x256 .f32)
  (hxa : ∀ b (hb : b < 8) r d, xa b (ix2 r d) = sXA (rowX x0 ⟨b, hb⟩ r) d)
  (hw : ∀ (n : Fin 1024) d, w (ix2 n d) = W (wLo n) d)
  (hwp : ∀ (p : Fin 32) d, wp (ix2 p d) = W (wHi p) d)
  (hgq : ∀ g (hg : g < 6) (l : Fin 128), gq g (ix2 0 l) = x3 (ix2 0 (qLane g hg l)))
  (hgk : ∀ k, gk (ix2 0 k) = x4 (ix2 0 k))

include hxa hw hgq in
theorem canon_q : View.canon (qPieces (F := Ideal) xa w gq 48) = blkQc x0 W x3 :=
  canon_eq (e := .fp8e4m3) _ _ (qPieces_of x0 W x3 xa w gq hxa hw hgq 48 (le_refl _)) (View.cover_of_tiledL _ S1x128x128.size (by sl_kernel_rfl))

include hxa hw hgq in
theorem canon_qs : View.canon (qsPieces (F := Ideal) xa w gq 8) = blkQs x0 W x3 :=
  canon_eq (e := .f32) _ _ (qsPieces_of x0 W x3 xa w gq hxa hw hgq 8 (le_refl _)) (View.cover_of_tiledL _ S6x1x128.size (by sl_kernel_rfl))

include hxa hw hgk in
theorem canon_lat : View.canon (latPieces (F := Ideal) xa w gk 8) = blkLat x0 W x4 :=
  canon_eq (e := .bf16) _ _ (latPieces_of x0 W x4 xa w gk hxa hw hgk 8 (le_refl _)) (View.cover_of_tiledL _ S1x128x256.size (by sl_kernel_rfl))

include hxa hwp in
theorem canon_pos : View.canon (posPieces (F := Ideal) xa wp 8) = blkPos x0 W :=
  canon_eq (e := .bf16) _ _ (posPieces_of x0 W xa wp hxa hwp 8 (le_refl _)) (View.cover_of_tiledL _ S1x32x128.size (by sl_kernel_rfl))

end Y

end Cert.Mla

end
-- ==== Proof.KernelPoint.lean ====
/- What one grid point leaves in its output blocks and in the scratch of dequantised weights. -/
module

public import proofs.«01_k».proof.Proof.KernelOuts

@[expose] public section

set_option maxRecDepth 16384

noncomputable section

namespace Cert.Mla

open Cert.KernelIdeal Cert.KernelIdeal.Gen Cert.KernelIdeal.Value Idealize.ShloMosaic Idealize.ShloMosaic.TcCoe Idealize.SL.Sem

/-- The blocks and the scratch. -/
abbrev PointTuple := Vec Ideal S8x128x768 .fp8e4m3 × Vec Ideal S6x8x128 .f32 × Vec Ideal S8x128x256 .bf16 × Vec Ideal S8x32x128 .bf16 × Vec Ideal S8x128x2560 .fp8e4m3 × Vec Ideal S20x8x128 .f32 × Vec Ideal S1056x2560 .bf16

/-- A scratch as a function of a row and a lane. -/
def scrF (xs : Vec Ideal S1056x2560 .bf16) : Fin 1056 → Fin 2560 → EReal := fun n d => xs (ix2 n d)

/-- What a point leaves, of the block of activations, the dequantised weights and the norm weights. -/
def pointOf (x0 : Vec Ideal S8x128x2560 .bf16) (xs : Vec Ideal S1056x2560 .bf16) (x3 : Vec Ideal S1x768 .f32) (x4 : Vec Ideal S1x256 .f32) : PointTuple :=
  (blkQc x0 (scrF xs) x3, blkQs x0 (scrF xs) x3, blkLat x0 (scrF xs) x4, blkPos x0 (scrF xs), blkXc x0, blkXs x0, xs)

/-- Stores over junk, once their list is known. -/
theorem read_eq {κ : Kind} {sp : Space} {e : EltTy} {S : Shape} (V : View sig κ sp S e) {L L' : List (View.Piece (Elt Ideal) S e)} {G : S.Idx → Elt Ideal e}
    (h : L = L') (h' : View.canon L' = G) : V.read (Elt Ideal) (V.writes (Elt Ideal) V.junk L) = G := by
  rw [View.read_writes_junk_eq_canon, h, h']

section Out
variable (c : Dev nD) (i : grid0.Coords) (arg2 : Memref sig .tc .vmem S8x128x2560 .bf16) (harg2 : arg2.IsWhole) (arg3 : Memref sig .tc .vmem S1056x2560 .fp8e4m3) (harg3 : arg3.IsWhole) (arg4 : Memref sig .tc .smem S9x20 .f32) (harg4 : arg4.IsWhole) (arg5 : Memref sig .tc .vmem S1x768 .f32) (harg5 : arg5.IsWhole) (arg6 : Memref sig .tc .vmem S1x256 .f32) (harg6 : arg6.IsWhole) (arg7 : Memref sig .tc .vmem S8x128x768 .fp8e4m3) (harg7 : arg7.IsWhole) (arg8 : Memref sig .tc .vmem S6x8x128 .f32) (harg8 : arg8.IsWhole) (arg9 : Memref sig .tc .vmem S8x128x256 .bf16) (harg9 : arg9.IsWhole) (arg10 : Memref sig .tc .vmem S8x32x128 .bf16) (harg10 : arg10.IsWhole) (arg11 : Memref sig .tc .vmem S8x128x2560 .fp8e4m3) (harg11 : arg11.IsWhole) (arg12 : Memref sig .tc .vmem S20x8x128 .f32) (harg12 : arg12.IsWhole) (arg13 : Memref sig .tc .vmem S1056x2560 .bf16) (harg13 : arg13.IsWhole) (arg14 : Memref sig .tc .vmem S128x2560 .bf16) (harg14 : arg14.IsWhole)
  (x0 : Vec Ideal S8x128x2560 .bf16) (x1 : Vec Ideal S1056x2560 .fp8e4m3) (x2 : Vec Ideal S9x20 .f32) (x3 : Vec Ideal S1x768 .f32) (x4 : Vec Ideal S1x256 .f32) (xs0 : Vec Ideal S1056x2560 .bf16)

/-! The first point's blocks. -/

theorem outA_5 (hc0 : cond0_0 i) :
    out0_A_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkQc x0 (wOf x1 x2) x3 :=
  read_eq _ (listA_5 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_q x0 (wOf x1 x2) x3 _ _ _ (ldA_val arg2 harg2 x0 arg14) (ldWA_val arg3 harg3 arg4 harg4 x1 x2 arg13) (ldG_val arg5 harg5 x3))

theorem outA_6 (hc0 : cond0_0 i) :
    out0_A_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkQs x0 (wOf x1 x2) x3 :=
  read_eq _ (listA_6 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_qs x0 (wOf x1 x2) x3 _ _ _ (ldA_val arg2 harg2 x0 arg14) (ldWA_val arg3 harg3 arg4 harg4 x1 x2 arg13) (ldG_val arg5 harg5 x3))

theorem outA_7 (hc0 : cond0_0 i) :
    out0_A_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkLat x0 (wOf x1 x2) x4 :=
  read_eq _ (listA_7 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_lat x0 (wOf x1 x2) x4 _ _ _ (ldA_val arg2 harg2 x0 arg14) (ldWA_val arg3 harg3 arg4 harg4 x1 x2 arg13) (ldK_val arg6 harg6 x4))

theorem outA_8 (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkPos x0 (wOf x1 x2) :=
  read_eq _ (listA_8 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_pos x0 (wOf x1 x2) _ _ (ldA_val arg2 harg2 x0 arg14) (ldPA_val arg3 harg3 arg4 harg4 x1 x2 arg13))

theorem outA_9 (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkXc x0 :=
  read_eq _ (listA_9 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_code arg2 harg2 x0)

theorem outA_10 (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = blkXs x0 :=
  read_eq _ (listA_10 c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_scale arg2 harg2 x0)

theorem outA_s (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 = scrW x1 x2 :=
  read_eq _ (listA_s c i arg2 harg2 arg3 harg3 arg4 harg4 arg5 harg5 arg6 harg6 arg7 harg7 arg8 harg8 arg9 harg9 arg10 harg10 arg11 harg11 arg12 harg12 arg13 harg13 arg14 harg14 x0 x1 x2 x3 x4 hc0)
    (canon_w arg3 harg3 arg4 harg4 x1 x2)

/-! A later point's blocks. -/

theorem outB_5 (hc0 : ¬cond0_0 i) :
    out0_B_5 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkQc x0 (scrF xs0) x3 :=
  read_eq _ (listB_5 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_q x0 (scrF xs0) x3 _ _ _ (ldA_val arg2 harg2 x0 arg14) (ldWB_val arg13 harg13 xs0) (ldG_val arg5 harg5 x3))

theorem outB_6 (hc0 : ¬cond0_0 i) :
    out0_B_6 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkQs x0 (scrF xs0) x3 :=
  read_eq _ (listB_6 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_qs x0 (scrF xs0) x3 _ _ _ (ldA_val arg2 harg2 x0 arg14) (ldWB_val arg13 harg13 xs0) (ldG_val arg5 harg5 x3))

theorem outB_7 (hc0 : ¬cond0_0 i) :
    out0_B_7 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkLat x0 (scrF xs0) x4 :=
  read_eq _ (listB_7 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_lat x0 (scrF xs0) x4 _ _ _ (ldA_val arg2 harg2 x0 arg14) (ldWB_val arg13 harg13 xs0) (ldK_val arg6 harg6 x4))

theorem outB_8 (hc0 : ¬cond0_0 i) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkPos x0 (scrF xs0) :=
  read_eq _ (listB_8 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_pos x0 (scrF xs0) _ _ (ldA_val arg2 harg2 x0 arg14) (ldPB_val arg13 harg13 xs0))

theorem outB_9 (hc0 : ¬cond0_0 i) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkXc x0 :=
  read_eq _ (listB_9 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_code arg2 harg2 x0)

theorem outB_10 (hc0 : ¬cond0_0 i) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 xs0 = blkXs x0 :=
  read_eq _ (listB_10 c i arg2 harg2 arg3 harg3 arg4 harg4 arg5 harg5 arg6 harg6 arg7 harg7 arg8 harg8 arg9 harg9 arg10 harg10 arg11 harg11 arg12 harg12 arg13 harg13 arg14 harg14 x0 x1 x2 x3 x4 xs0 hc0)
    (canon_scale arg2 harg2 x0)

end Out

variable (m : (ℓ : Loc nD τ sig) → Buf (Elt Ideal) ℓ) (c : Dev nD)

/-- The first point dequantises the weights and works with them. -/
theorem stAt0_first (t : Fin cfg0.N) (acc : PointTuple) (h0 : t.val % 96 = 0) :
    stAt0 m c t.val t.isLt acc = pointOf (iblk m c 0 t) (scrW (iblk m c 1 t) (iblk m c 2 t)) (iblk m c 3 t) (iblk m c 4 t) := by
  rw [stAt0_A m c t acc h0]
  rw [outA_5, outA_6, outA_7, outA_8, outA_9, outA_10, outA_s]
  rfl

/-- A later point works with the scratch that the point before left. -/
theorem stAt0_later (t : Fin cfg0.N) (acc : PointTuple) (h0 : ¬t.val % 96 = 0) :
    stAt0 m c t.val t.isLt acc = pointOf (iblk m c 0 t) acc.2.2.2.2.2.2 (iblk m c 3 t) (iblk m c 4 t) := by
  rw [stAt0_B m c t acc h0]
  rw [outB_5, outB_6, outB_7, outB_8, outB_9, outB_10]
  rfl

end Cert.Mla

end
-- ==== Proof.KernelArray.lean ====
/- What the kernel's result arrays hold after the run, as a function of its arguments. -/
module

public import proofs.«01_k».proof.Proof.KernelPoint

@[expose] public section

set_option maxRecDepth 16384

noncomputable section

namespace Cert.Mla

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-! ## The arguments, as plain functions -/

abbrev argX : Vec Ideal S24x4096x2560 .bf16 := m ((c : Thread nD τ).loc main_arg0)
abbrev argW : Vec Ideal S1056x2560 .fp8e4m3 := m ((c : Thread nD τ).loc main_arg1)
abbrev argS : Vec Ideal S9x20 .f32 := m ((c : Thread nD τ).loc main_arg2)
abbrev argGq : Vec Ideal S768 .f32 := m ((c : Thread nD τ).loc main_arg3)
abbrev argGk : Vec Ideal S256 .f32 := m ((c : Thread nD τ).loc main_arg4)

/-! ## The blocks that a point reads -/

theorem idx0 : ∀ t : Fin cfg0.N, win0_0.index t (0 : Fin 3) = t.val / 32 ∧ win0_0.index t (1 : Fin 3) = t.val % 32 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem point_lt (t : Fin cfg0.N) : t.val < 96 := lt_of_lt_of_eq t.isLt N_0

/-- The batch and the position that row `(b, r)` of point `n`'s block has. -/
def batchOf (n : ℕ) (hn : n < 96) (b : Fin 8) : Fin 24 := ⟨8 * (n / 32) + b.val, by omega⟩
def seqOf (n : ℕ) (r : Fin 128) : Fin 4096 := ⟨128 * (n % 32) + r.val, by omega⟩

theorem iblk0_val (t : Fin cfg0.N) (b : Fin 8) (r : Fin 128) (d : Fin 2560) :
    (iblk m c 0 t : Vec Ideal S8x128x2560 .bf16) (ix3 b r d) = argX m c (ix3 (batchOf t.val (point_lt t) b) (seqOf t.val r) d) := by
  obtain ⟨e0, e1, e2⟩ := idx0 t
  show V m c main_arg0 (((cfg0.win 0).blk t).view.emb (ix3 b r d)) = _
  rw [V_main_arg0]
  congr 1
  funext a
  apply Fin.ext
  match a with
  | 0 => show win0_0.index t (0 : Fin 3) * 8 + 1 * b.val = 8 * (t.val / 32) + b.val; omega
  | 1 => show win0_0.index t (1 : Fin 3) * 128 + 1 * r.val = 128 * (t.val % 32) + r.val; omega
  | 2 => show win0_0.index t (2 : Fin 3) * 2560 + 1 * d.val = d.val; omega

theorem iblk1_val (t : Fin cfg0.N) : (iblk m c 1 t : Vec Ideal S1056x2560 .fp8e4m3) = argW m c := by
  obtain ⟨e0, e1⟩ := idx1 t
  funext y
  show V m c main_arg1 (((cfg0.win 1).blk t).view.emb y) = _
  rw [V_main_arg1]
  congr 1
  funext a
  apply Fin.ext
  match a with
  | 0 => show win0_1.index t (0 : Fin 2) * 1056 + 1 * (y 0).val = (y 0).val; omega
  | 1 => show win0_1.index t (1 : Fin 2) * 2560 + 1 * (y 1).val = (y 1).val; omega

theorem iblk2_val (t : Fin cfg0.N) : (iblk m c 2 t : Vec Ideal S9x20 .f32) = argS m c := by
  obtain ⟨e0, e1⟩ := idx2 t
  funext y
  show V m c main_arg2 (((cfg0.win 2).blk t).view.emb y) = _
  rw [V_main_arg2]
  congr 1
  funext a
  apply Fin.ext
  match a with
  | 0 => show win0_2.index t (0 : Fin 2) * 9 + 1 * (y 0).val = (y 0).val; omega
  | 1 => show win0_2.index t (1 : Fin 2) * 20 + 1 * (y 1).val = (y 1).val; omega

/-- The norm weights reach the region as one row. -/
theorem V_v0 (q : Fin 768) : V m c main_v0 (ix2 0 q) = argGq m c (ix1 q) := by
  unfold_abbrev_sides
  after_results
  pointwise
theorem V_v1 (k : Fin 256) : V m c main_v1 (ix2 0 k) = argGk m c (ix1 k) := by
  unfold_abbrev_sides
  after_results
  pointwise

theorem iblk3_val (t : Fin cfg0.N) (q : Fin 768) : (iblk m c 3 t : Vec Ideal S1x768 .f32) (ix2 0 q) = argGq m c (ix1 q) := by
  obtain ⟨e0, e1⟩ := idx3 t
  rw [← V_v0]
  show V m c main_v0 (((cfg0.win 3).blk t).view.emb (ix2 0 q)) = _
  congr 1
  funext a
  apply Fin.ext
  match a with
  | 0 => show win0_3.index t (0 : Fin 2) * 1 + 1 * 0 = 0; omega
  | 1 => show win0_3.index t (1 : Fin 2) * 768 + 1 * q.val = q.val; omega

theorem iblk4_val (t : Fin cfg0.N) (k : Fin 256) : (iblk m c 4 t : Vec Ideal S1x256 .f32) (ix2 0 k) = argGk m c (ix1 k) := by
  obtain ⟨e0, e1⟩ := idx4 t
  rw [← V_v1]
  show V m c main_v1 (((cfg0.win 4).blk t).view.emb (ix2 0 k)) = _
  congr 1
  funext a
  apply Fin.ext
  match a with
  | 0 => show win0_4.index t (0 : Fin 2) * 1 + 1 * 0 = 0; omega
  | 1 => show win0_4.index t (1 : Fin 2) * 256 + 1 * k.val = k.val; omega

/-! ## All points -/

/-- The arguments as functions of their coordinates. -/
def rowA (b : Fin 24) (t : Fin 4096) : Fin 2560 → EReal := fun d => argX m c (ix3 b t d)
def wA : Fin 1056 → Fin 2560 → EReal := sW (fun n d => argW m c (ix2 n d)) (fun j g => argS m c (ix2 j g))
def gqA : Fin 768 → EReal := fun q => argGq m c (ix1 q)
def gkA : Fin 256 → EReal := fun k => argGk m c (ix1 k)

/-- Every point leaves the dequantised weights in the scratch, and its blocks are those of its rows. -/
theorem outs_val : ∀ (n : ℕ) (hn : n < cfg0.N),
    outsAt0 m c n hn = pointOf (iblk m c 0 ⟨n, hn⟩) (scrW (argW m c) (argS m c)) (iblk m c 3 ⟨n, hn⟩) (iblk m c 4 ⟨n, hn⟩)
  | 0, hn => by
    rw [outsAt0_zero]
    refine (stAt0_first m c ⟨0, hn⟩ _ (Nat.zero_mod _)).trans ?_
    rw [iblk1_val, iblk2_val]
  | n + 1, hn => by
    have hN : n + 1 < 96 := lt_of_lt_of_eq hn N_0
    rw [outsAt0_succ]
    refine (stAt0_later m c ⟨n + 1, hn⟩ _ (by show ¬(n + 1) % 96 = 0; omega)).trans ?_
    rw [outs_val n]
    rfl

theorem row_eq (n : ℕ) (hn : n < cfg0.N) (b : Fin 8) (r : Fin 128) (B : Fin 24) (T : Fin 4096)
    (hB : 8 * (n / 32) + b.val = B.val) (hT : 128 * (n % 32) + r.val = T.val) :
    rowX (iblk m c 0 ⟨n, hn⟩) b r = rowA m c B T := by
  funext d
  refine (iblk0_val m c ⟨n, hn⟩ b r d).trans ?_
  unfold rowA
  congr 1
  rw [show batchOf n (point_lt ⟨n, hn⟩) b = B from Fin.ext hB, show seqOf n r = T from Fin.ext hT]

theorem gq_eq (t : Fin cfg0.N) : (fun q => (iblk m c 3 t : Vec Ideal S1x768 .f32) (ix2 0 q)) = gqA m c := funext fun q => iblk3_val m c t q
theorem gk_eq (t : Fin cfg0.N) : (fun k => (iblk m c 4 t : Vec Ideal S1x256 .f32) (ix2 0 k)) = gkA m c := funext fun k => iblk4_val m c t k
theorem w_eq : scrF (scrW (argW m c) (argS m c)) = wA m c := rfl

/-! ## The blocks of a point, in terms of the arguments -/

section At
variable (n : ℕ) (hn : n < cfg0.N) (B : Fin 24) (T : Fin 4096)

theorem blkQc_at (z : Fin 8) (r : Fin 128) (q : Fin 768) (hB : 8 * (n / 32) + z.val = B.val) (hT : 128 * (n % 32) + r.val = T.val) :
    blkQc (iblk m c 0 ⟨n, hn⟩) (scrF (scrW (argW m c) (argS m c))) (iblk m c 3 ⟨n, hn⟩) (ix3 z r q) = sQc (sU (rowA m c B T) (wA m c) (gqA m c)) q := by
  show sQc (sU (rowX (iblk m c 0 ⟨n, hn⟩) z r) _ _) q = _
  rw [row_eq m c n hn z r B T hB hT, gq_eq, w_eq]

theorem blkQs_at (g : Fin 6) (z : Fin 8) (r : Fin 128) (hB : 8 * (n / 32) + z.val = B.val) (hT : 128 * (n % 32) + r.val = T.val) :
    blkQs (iblk m c 0 ⟨n, hn⟩) (scrF (scrW (argW m c) (argS m c))) (iblk m c 3 ⟨n, hn⟩) (ix3 g z r) = sQs (sU (rowA m c B T) (wA m c) (gqA m c)) g := by
  show sQs (sU (rowX (iblk m c 0 ⟨n, hn⟩) z r) _ _) g = _
  rw [row_eq m c n hn z r B T hB hT, gq_eq, w_eq]

theorem blkLat_at (z : Fin 8) (r : Fin 128) (k : Fin 256) (hB : 8 * (n / 32) + z.val = B.val) (hT : 128 * (n % 32) + r.val = T.val) :
    blkLat (iblk m c 0 ⟨n, hn⟩) (scrF (scrW (argW m c) (argS m c))) (iblk m c 4 ⟨n, hn⟩) (ix3 z r k) = sLat (rowA m c B T) (wA m c) (gkA m c) k := by
  show sLat (rowX (iblk m c 0 ⟨n, hn⟩) z r) _ _ k = _
  rw [row_eq m c n hn z r B T hB hT, gk_eq, w_eq]

theorem blkPos_at (z : Fin 8) (p : Fin 32) (r : Fin 128) (hB : 8 * (n / 32) + z.val = B.val) (hT : 128 * (n % 32) + r.val = T.val) :
    blkPos (iblk m c 0 ⟨n, hn⟩) (scrF (scrW (argW m c) (argS m c))) (ix3 z p r) = sPos (rowA m c B T) (wA m c) p := by
  show sPos (rowX (iblk m c 0 ⟨n, hn⟩) z r) _ p = _
  rw [row_eq m c n hn z r B T hB hT, w_eq]

theorem blkXc_at (z : Fin 8) (r : Fin 128) (d : Fin 2560) (hB : 8 * (n / 32) + z.val = B.val) (hT : 128 * (n % 32) + r.val = T.val) :
    blkXc (iblk m c 0 ⟨n, hn⟩) (ix3 z r d) = sXc (rowA m c B T) d := by
  show sXc (rowX (iblk m c 0 ⟨n, hn⟩) z r) d = _
  rw [row_eq m c n hn z r B T hB hT]

theorem blkXs_at (g : Fin 20) (z : Fin 8) (r : Fin 128) (hB : 8 * (n / 32) + z.val = B.val) (hT : 128 * (n % 32) + r.val = T.val) :
    blkXs (iblk m c 0 ⟨n, hn⟩) (ix3 g z r) = sXs (rowA m c B T) g := by
  show sXs (rowX (iblk m c 0 ⟨n, hn⟩) z r) g = _
  rw [row_eq m c n hn z r B T hB hT]

end At

/-! ## The result arrays -/

/-- The codes of the normed lanes. -/
theorem G5_val (i : S24x4096x768.Idx) : G5 m c i = sQc (sU (rowA m c (i 0) (i 1)) (wA m c) (gqA m c)) (i 2) := by
  have h0 : (i 0).val < 24 := (i 0).isLt
  have h1 : (i 1).val < 4096 := (i 1).isLt
  have h2 : (i 2).val < 768 := (i 2).isLt
  have e : pt5Of i = 32 * ((i 0).val / 8) + (i 1).val / 128 := by
    show 32 * ((i 0).val / 8 - 0) + 1 * ((i 1).val / 128 - 0) + 1 * ((i 2).val / 768 - 0) = _; omega
  have hp : pt5Of i < cfg0.N := lt_of_lt_of_eq (by omega) N_0.symm
  unfold G5
  rw [dif_pos hp, ← fold0_congr m c _ (by rw [Nat.zero_add]; exact hp) _ _ rfl, ← outsAt0_sweep m c _ hp, outs_val]
  show blkQc (iblk m c 0 ⟨pt5Of i, hp⟩) _ _ (loc5Of i) = _
  rw [eq_ix3 (loc5Of i)]
  refine (blkQc_at m c (pt5Of i) hp (i 0) (i 1) (loc5Of i 0) (loc5Of i 1) (loc5Of i 2)
    (by show 8 * (pt5Of i / 32) + (i 0).val % 8 = _; omega) (by show 128 * (pt5Of i % 32) + (i 1).val % 128 = _; omega)).trans ?_
  rw [show loc5Of i 2 = i 2 from Fin.ext (Nat.mod_eq_of_lt h2)]

/-- Their scales. -/
theorem G6_val (i : S6x24x4096.Idx) : G6 m c i = sQs (sU (rowA m c (i 1) (i 2)) (wA m c) (gqA m c)) (i 0) := by
  have h0 : (i 0).val < 6 := (i 0).isLt
  have h1 : (i 1).val < 24 := (i 1).isLt
  have h2 : (i 2).val < 4096 := (i 2).isLt
  have e : pt6Of i = 32 * ((i 1).val / 8) + (i 2).val / 128 := by
    show 96 * ((i 0).val / 6 - 0) + 32 * ((i 1).val / 8 - 0) + 1 * ((i 2).val / 128 - 0) = _; omega
  have hp : pt6Of i < cfg0.N := lt_of_lt_of_eq (by omega) N_0.symm
  unfold G6
  rw [dif_pos hp, ← fold0_congr m c _ (by rw [Nat.zero_add]; exact hp) _ _ rfl, ← outsAt0_sweep m c _ hp, outs_val]
  show blkQs (iblk m c 0 ⟨pt6Of i, hp⟩) _ _ (loc6Of i) = _
  rw [eq_ix3 (loc6Of i)]
  refine (blkQs_at m c (pt6Of i) hp (i 1) (i 2) (loc6Of i 0) (loc6Of i 1) (loc6Of i 2)
    (by show 8 * (pt6Of i / 32) + (i 1).val % 8 = _; omega) (by show 128 * (pt6Of i % 32) + (i 2).val % 128 = _; omega)).trans ?_
  rw [show loc6Of i 0 = i 0 from Fin.ext (Nat.mod_eq_of_lt h0)]

/-- The normed latent lanes. -/
theorem G7_val (i : S24x4096x256.Idx) : G7 m c i = sLat (rowA m c (i 0) (i 1)) (wA m c) (gkA m c) (i 2) := by
  have h0 : (i 0).val < 24 := (i 0).isLt
  have h1 : (i 1).val < 4096 := (i 1).isLt
  have h2 : (i 2).val < 256 := (i 2).isLt
  have e : pt7Of i = 32 * ((i 0).val / 8) + (i 1).val / 128 := by
    show 32 * ((i 0).val / 8 - 0) + 1 * ((i 1).val / 128 - 0) + 1 * ((i 2).val / 256 - 0) = _; omega
  have hp : pt7Of i < cfg0.N := lt_of_lt_of_eq (by omega) N_0.symm
  unfold G7
  rw [dif_pos hp, ← fold0_congr m c _ (by rw [Nat.zero_add]; exact hp) _ _ rfl, ← outsAt0_sweep m c _ hp, outs_val]
  show blkLat (iblk m c 0 ⟨pt7Of i, hp⟩) _ _ (loc7Of i) = _
  rw [eq_ix3 (loc7Of i)]
  refine (blkLat_at m c (pt7Of i) hp (i 0) (i 1) (loc7Of i 0) (loc7Of i 1) (loc7Of i 2)
    (by show 8 * (pt7Of i / 32) + (i 0).val % 8 = _; omega) (by show 128 * (pt7Of i % 32) + (i 1).val % 128 = _; omega)).trans ?_
  rw [show loc7Of i 2 = i 2 from Fin.ext (Nat.mod_eq_of_lt h2)]

/-- The position lanes. -/
theorem G8_val (i : S24x32x4096.Idx) : G8 m c i = sPos (rowA m c (i 0) (i 2)) (wA m c) (i 1) := by
  have h0 : (i 0).val < 24 := (i 0).isLt
  have h1 : (i 1).val < 32 := (i 1).isLt
  have h2 : (i 2).val < 4096 := (i 2).isLt
  have e : pt8Of i = 32 * ((i 0).val / 8) + (i 2).val / 128 := by
    show 32 * ((i 0).val / 8 - 0) + 32 * ((i 1).val / 32 - 0) + 1 * ((i 2).val / 128 - 0) = _; omega
  have hp : pt8Of i < cfg0.N := lt_of_lt_of_eq (by omega) N_0.symm
  unfold G8
  rw [dif_pos hp, ← fold0_congr m c _ (by rw [Nat.zero_add]; exact hp) _ _ rfl, ← outsAt0_sweep m c _ hp, outs_val]
  show blkPos (iblk m c 0 ⟨pt8Of i, hp⟩) _ (loc8Of i) = _
  rw [eq_ix3 (loc8Of i)]
  refine (blkPos_at m c (pt8Of i) hp (i 0) (i 2) (loc8Of i 0) (loc8Of i 1) (loc8Of i 2)
    (by show 8 * (pt8Of i / 32) + (i 0).val % 8 = _; omega) (by show 128 * (pt8Of i % 32) + (i 2).val % 128 = _; omega)).trans ?_
  rw [show loc8Of i 1 = i 1 from Fin.ext (Nat.mod_eq_of_lt h1)]

/-- The codes of the activations. -/
theorem G9_val (i : S24x4096x2560.Idx) : G9 m c i = sXc (rowA m c (i 0) (i 1)) (i 2) := by
  have h0 : (i 0).val < 24 := (i 0).isLt
  have h1 : (i 1).val < 4096 := (i 1).isLt
  have h2 : (i 2).val < 2560 := (i 2).isLt
  have e : pt9Of i = 32 * ((i 0).val / 8) + (i 1).val / 128 := by
    show 32 * ((i 0).val / 8 - 0) + 1 * ((i 1).val / 128 - 0) + 1 * ((i 2).val / 2560 - 0) = _; omega
  have hp : pt9Of i < cfg0.N := lt_of_lt_of_eq (by omega) N_0.symm
  unfold G9
  rw [dif_pos hp, ← fold0_congr m c _ (by rw [Nat.zero_add]; exact hp) _ _ rfl, ← outsAt0_sweep m c _ hp, outs_val]
  show blkXc (iblk m c 0 ⟨pt9Of i, hp⟩) (loc9Of i) = _
  rw [eq_ix3 (loc9Of i)]
  refine (blkXc_at m c (pt9Of i) hp (i 0) (i 1) (loc9Of i 0) (loc9Of i 1) (loc9Of i 2)
    (by show 8 * (pt9Of i / 32) + (i 0).val % 8 = _; omega) (by show 128 * (pt9Of i % 32) + (i 1).val % 128 = _; omega)).trans ?_
  rw [show loc9Of i 2 = i 2 from Fin.ext (Nat.mod_eq_of_lt h2)]

/-- Their scales. -/
theorem G10_val (i : S20x24x4096.Idx) : G10 m c i = sXs (rowA m c (i 1) (i 2)) (i 0) := by
  have h0 : (i 0).val < 20 := (i 0).isLt
  have h1 : (i 1).val < 24 := (i 1).isLt
  have h2 : (i 2).val < 4096 := (i 2).isLt
  have e : pt10Of i = 32 * ((i 1).val / 8) + (i 2).val / 128 := by
    show 96 * ((i 0).val / 20 - 0) + 32 * ((i 1).val / 8 - 0) + 1 * ((i 2).val / 128 - 0) = _; omega
  have hp : pt10Of i < cfg0.N := lt_of_lt_of_eq (by omega) N_0.symm
  unfold G10
  rw [dif_pos hp, ← fold0_congr m c _ (by rw [Nat.zero_add]; exact hp) _ _ rfl, ← outsAt0_sweep m c _ hp, outs_val]
  show blkXs (iblk m c 0 ⟨pt10Of i, hp⟩) (loc10Of i) = _
  rw [eq_ix3 (loc10Of i)]
  refine (blkXs_at m c (pt10Of i) hp (i 1) (i 2) (loc10Of i 0) (loc10Of i 1) (loc10Of i 2)
    (by show 8 * (pt10Of i / 32) + (i 1).val % 8 = _; omega) (by show 128 * (pt10Of i % 32) + (i 2).val % 128 = _; omega)).trans ?_
  rw [show loc10Of i 0 = i 0 from Fin.ext (Nat.mod_eq_of_lt h0)]

end Cert.Mla

end
-- ==== Proof.RefRows.lean ====
/- The reference's vector functions read at an index, at extended reals: each is the row function of `Spec`. -/
module

public import proofs.«01_k».proof.Proof.Spec
public import proofs.«01_k».proof.Proof.Gen.ReferenceIdeal.Frame
public import Idealize.ShloMosaic.Lib.Pointwise

@[expose] public section

set_option maxRecDepth 16384

noncomputable section

namespace Cert.Mla

open Cert.ReferenceIdeal Cert.ReferenceIdeal.Gen Idealize.ShloMosaic

/-- The reference's exponent, as it is written, is the exponent of `Scale`. -/
theorem refExp_read (t : EReal) :
    (if t < Ideal.ofBits .f32 0x00800000#32 then 0
      else min (Ideal.ofBits .f32 0x42F00000#32) (max (Ideal.ofBits .f32 0xC2FA0000#32)
        (Ideal.liftRound Int.floor (Ideal.log t * Named.named (F := Ideal) (φ := .f32) κ "log2e" 0x3FB8AA3B#32) + 1)))
      = refExp t := by
  have hn : Named.named (F := Ideal) (φ := .f32) κ "log2e" 0x3FB8AA3B#32 = (((Real.log 2)⁻¹ : ℝ) : EReal) := rfl
  rw [tiny_f32, v120_f32, m125_f32, hn]
  rfl

/-! ## The activations -/

/-- The exponent of one group of activations. -/
theorem refX_exp (x : Vec Ideal S24x4096x2560 .bf16) (b : Fin 24) (t : Fin 4096) (g : Fin 20) :
    k0_pay3 x (ix3 b t g) = refExp (tX (fun d => x (ix3 b t d)) g) := by
  have hg : ∀ j : Fin 128, g.val * 128 + j.val < 2560 := fun j => by omega
  have ht : Ideal.div (Finset.fold max (Ideal.ofBits .f32 0xFF800000#32)
      (fun j : Fin 128 => FloatOps.absf (F := Ideal) (φ := .f32) (x (ix3 b t ⟨g.val * 128 + j.val, hg j⟩))) Finset.univ)
      (Ideal.ofBits .f32 0x43E00000#32) = tX (fun d => x (ix3 b t d)) g := by
    rw [ninf32]
    unfold tX amax grp
    congr 2
    funext j
    have e : (⟨g.val * 128 + j.val, hg j⟩ : Fin 2560) = ⟨128 * g.val + j.val, by omega⟩ := Fin.ext (by show g.val * 128 + j.val = 128 * g.val + j.val; omega)
    rw [e]
    rfl
  pointwise [k0_pay3, k0_pay2]
  rw [ht]
  exact refExp_read _

/-- The code of one activation. -/
theorem refX_code (x : Vec Ideal S24x4096x2560 .bf16) (b : Fin 24) (t : Fin 4096) (d : Fin 2560) :
    k0_pay6 x (ix3 b t d) = sXc (fun d => x (ix3 b t d)) d := by
  pointwise [k0_pay6, k0_pay5, k0_pay2]
  rw [refX_exp]
  rfl

/-- The same code, by group and lane. -/
theorem refX_code4 (x : Vec Ideal S24x4096x2560 .bf16) (b : Fin 24) (t : Fin 4096) (d : Fin 2560) :
    k0_pay8 x (ix4 b t ⟨d.val / 128, by omega⟩ ⟨d.val % 128, by omega⟩) = sXc (fun d => x (ix3 b t d)) d := by
  rw [← refX_code]
  pointwise [k0_pay8, k0_pay6]

/-- The scale of one group of activations. -/
theorem refX_scale (x : Vec Ideal S24x4096x2560 .bf16) (b : Fin 24) (t : Fin 4096) (g : Fin 20) :
    k0_pay4 x (ix3 b t g) = sXs (fun d => x (ix3 b t d)) g := by
  pointwise [k0_pay4]
  rw [refX_exp]
  rfl

/-- The scale of one group, in the order in which it is stored. -/
theorem refX_scale' (x : Vec Ideal S24x4096x2560 .bf16) (b : Fin 24) (t : Fin 4096) (g : Fin 20) :
    k0_pay7 x (ix3 g b t) = sXs (fun d => x (ix3 b t d)) g := by
  rw [← refX_scale]
  pointwise [k0_pay7]

/-! ## The product and the norms -/

/-- The batch and the position of a row of the product. -/
def rB (r : Fin 98304) : Fin 24 := ⟨r.val / 4096, by omega⟩
def rT (r : Fin 98304) : Fin 4096 := ⟨r.val % 4096, by omega⟩
/-- The row of the product for a batch and a position. -/
def rR (b : Fin 24) (t : Fin 4096) : Fin 98304 := ⟨b.val * 4096 + t.val, by omega⟩
theorem rB_rR (b : Fin 24) (t : Fin 4096) : rB (rR b t) = b := Fin.ext (by show (b.val * 4096 + t.val) / 4096 = b.val; omega)
theorem rT_rR (b : Fin 24) (t : Fin 4096) : rT (rR b t) = t := Fin.ext (by show (b.val * 4096 + t.val) % 4096 = t.val; omega)

section
variable (x : Vec Ideal S24x4096x2560 .bf16) (w : Vec Ideal S1056x2560 .fp8e4m3) (s : Vec Ideal S9x20 .f32)
variable (gq : Vec Ideal S1x768 .f32) (gk : Vec Ideal S1x256 .f32)

/-- An activation row, the dequantised weights and the two gains, as plain functions. -/
def refX (b : Fin 24) (t : Fin 4096) : Fin 2560 → EReal := fun d => x (ix3 b t d)
def refW : Fin 1056 → Fin 2560 → EReal := sW (fun n d => w (ix2 n d)) (fun j g => s (ix2 j g))
def refGq : Fin 768 → EReal := fun q => gq (ix2 0 q)
def refGk : Fin 256 → EReal := fun k => gk (ix2 0 k)

/-- The product. -/
theorem ref_prod (r : Fin 98304) (n : Fin 1056) :
    k0_pay9 (F := Ideal) (k0_pay4 x) (k0_pay8 x) s w (ix2 r n) = sY (refX x (rB r) (rT r)) (refW w s) n := by
  pointwise [k0_pay9]
  unfold sY
  refine Finset.sum_congr rfl fun d _ => ?_
  rw [refX_scale, refX_code4]
  rfl

/-- The position lanes. -/
theorem ref_pos (b : Fin 24) (t : Fin 4096) (p : Fin 32) :
    k0_pay11 (F := Ideal) (k0_pay4 x) (k0_pay8 x) s w (ix3 b p t) = sPos (refX x b t) (refW w s) p := by
  have h := ref_prod x w s (rR b t) ⟨1024 + p.val, by omega⟩
  rw [rB_rR, rT_rR] at h
  refine Eq.trans ?_ h
  pointwise [k0_pay11]
  rfl

/-- The latent lanes of the product. -/
theorem ref_prodK (r : Fin 98304) (k : Fin 256) :
    k0_pay10 (F := Ideal) (k0_pay4 x) (k0_pay8 x) s w (ix2 r k) = yK (refX x (rB r) (rT r)) (refW w s) k := by
  pointwise [k0_pay10]
  exact ref_prod x w s r _

/-- The normed latent lanes. -/
theorem ref_lat (b : Fin 24) (t : Fin 4096) (k : Fin 256) :
    k0_pay15 (F := Ideal) (k0_pay10 (k0_pay4 x) (k0_pay8 x) s w) (k0_pay13 (k0_pay4 x) (k0_pay8 x) s w) k0_pay14 gk (ix3 b t k)
      = sLat (refX x b t) (refW w s) (refGk gk) k := by
  have hr : ∀ h : b.val * 4096 + t.val < 98304, (⟨b.val * 4096 + t.val, h⟩ : Fin 98304) = rR b t := fun _ => rfl
  pointwise [k0_pay15, k0_pay13, k0_pay14]
  simp only [ref_prodK, hr, rB_rR, rT_rR]
  rfl

/-- The normed lanes that are quantised again. -/
theorem ref_u (r : Fin 98304) (q : Fin 768) :
    k0_pay12 (F := Ideal) (k0_pay4 x) (k0_pay8 x) s w gq (ix2 r q) = sU (refX x (rB r) (rT r)) (refW w s) (refGq gq) q := by
  pointwise [k0_pay12]
  simp only [ref_prod]
  rfl

end

end Cert.Mla

end
-- ==== Proof.RefQuant.lean ====
/- The reference's second quantiser read at an index, at extended reals. -/
module

public import proofs.«01_k».proof.Proof.RefRows

@[expose] public section

set_option maxRecDepth 16384

noncomputable section

namespace Cert.Mla

open Cert.ReferenceIdeal Cert.ReferenceIdeal.Gen Idealize.ShloMosaic

/-- The exponents of a matrix of scaled bounds, as the reference computes them. -/
def expVec (T : FVec Ideal S24x4096x6 .f32) : FVec Ideal S24x4096x6 .f32 :=
  select (cmpf .olt T (broadcast S24x4096x6 (Scalar.ofBits .f32 0x00800000#32))) (broadcast S24x4096x6 (Scalar.ofBits .f32 0x00000000#32))
    (minimumf (broadcast S24x4096x6 (Scalar.ofBits .f32 0x42F00000#32)) (maximumf (broadcast S24x4096x6 (Scalar.ofBits .f32 0xC2FA0000#32))
      (addf (floor (mulf (log T) (broadcast S24x4096x6 (Named.named κ "log2e" 0x3FB8AA3B#32)))) (broadcast S24x4096x6 (Scalar.ofBits .f32 0x3F800000#32)))))

/-- The largest value of each group. -/
def maxVec (v : FVec Ideal S24x4096x6x128 .f32) : FVec Ideal S24x4096x6 .f32 :=
  multiReduction .maximumf [3] S24x4096x6 v 0xFF800000#32 reduces_S24x4096x6x128_S24x4096x6 (.inl rfl) rfl

/-- The largest values, scaled. -/
def scaleVec (v : FVec Ideal S24x4096x6 .f32) : FVec Ideal S24x4096x6 .f32 := mulf v (broadcast S24x4096x6 (Scalar.ofBits .f32 0x3B124925#32))

theorem pay17_eq (u : FVec Ideal S98304x768 .f32) :
    k0_pay17 (F := Ideal) u = expVec (scaleVec (maxVec (absf (k0_pay16 u)))) := rfl

theorem pay18_eq (u : FVec Ideal S98304x768 .f32) : k0_pay18 (F := Ideal) u = exp2 (k0_pay17 u) := rfl

theorem exp2_at (v : FVec Ideal S24x4096x6 .f32) (i : S24x4096x6.Idx) : exp2 v i = Ideal.exp2 (v i) := rfl

theorem scaleVec_at (v : FVec Ideal S24x4096x6 .f32) (i : S24x4096x6.Idx) : scaleVec v i = v i * Ideal.ofBits .f32 0x3B124925#32 := rfl

theorem absf_at (v : FVec Ideal S24x4096x6x128 .f32) (i : S24x4096x6x128.Idx) : absf v i = max (v i) (-(v i)) := rfl

theorem expVec_at (T : FVec Ideal S24x4096x6 .f32) (b : Fin 24) (t : Fin 4096) (g : Fin 6) :
    expVec T (ix3 b t g) = refExp (T (ix3 b t g)) := by
  pointwise [expVec]
  exact refExp_read _

theorem maxVec_at (v : FVec Ideal S24x4096x6x128 .f32) (b : Fin 24) (t : Fin 4096) (g : Fin 6) :
    maxVec v (ix3 b t g) = (Finset.univ : Finset (Fin 128)).fold max (Ideal.ofBits .f32 0xFF800000#32) (fun j => v (ix4 b t g j)) := by
  pointwise [maxVec]

theorem pay1_at (v : FVec Ideal S24x4096x6 .f32) (b : Fin 24) (t : Fin 4096) (g : Fin 6) :
    k0_pay1 (F := Ideal) v (ix3 g b t) = v (ix3 b t g) := by
  pointwise [k0_pay1]

/-- Lane `128 g + j`. -/
def qAt (g : Fin 6) (j : Fin 128) : Fin 768 := ⟨128 * g.val + j.val, by omega⟩

theorem pay16_at (u : FVec Ideal S98304x768 .f32) (b : Fin 24) (t : Fin 4096) (g : Fin 6) (j : Fin 128) :
    k0_pay16 (F := Ideal) u (ix4 b t g j) = u (ix2 (rR b t) (qAt g j)) := by
  have e : qAt g j = ⟨g.val * 128 + j.val, by omega⟩ := Fin.ext (by show 128 * g.val + j.val = g.val * 128 + j.val; omega)
  rw [e]
  pointwise [k0_pay16]
  rfl

/-- The exponent of one group. -/
theorem refQ_exp (u : FVec Ideal S98304x768 .f32) (b : Fin 24) (t : Fin 4096) (g : Fin 6) :
    k0_pay17 (F := Ideal) u (ix3 b t g) = refExp (tQ (fun q => u (ix2 (rR b t) q)) g) := by
  rw [pay17_eq, expVec_at, scaleVec_at, maxVec_at, ninf32]
  simp only [absf_at, pay16_at]
  unfold tQ amax grp qAt
  rfl

/-- Its scale, in the order in which it is stored. -/
theorem refQ_scale (u : FVec Ideal S98304x768 .f32) (b : Fin 24) (t : Fin 4096) (g : Fin 6) :
    k0_pay1 (F := Ideal) (k0_pay18 u) (ix3 g b t) = sQs (fun q => u (ix2 (rR b t) q)) g := by
  rw [pay1_at, pay18_eq, exp2_at, refQ_exp, sQs]

/-- The values of each group under their multiplier, as the reference lays them out. -/
def timesVec (v : FVec Ideal S24x4096x6x128 .f32) (e : FVec Ideal S24x4096x6 .f32) : FVec Ideal S24x4096x6x128 .f32 :=
  mulf v (broadcastTo S24x4096x6x128 (shapeCast S24x4096x6x1 e shapeCasts_S24x4096x6_S24x4096x6x1) broadcasts_S24x4096x6x1_S24x4096x6x128)

/-- Values clamped to the range of a code and laid out by lane. -/
def clampVec (v : FVec Ideal S24x4096x6x128 .f32) : FVec Ideal S24x4096x768 .fp8e4m3 :=
  shapeCast S24x4096x768 (truncf .fp8e4m3 (minimumf (broadcast S24x4096x6x128 (Scalar.ofBits .f32 0x43E00000#32))
    (maximumf (broadcast S24x4096x6x128 (Scalar.ofBits .f32 0xC3E00000#32)) v)) bitsLt_fp8e4m3_f32) shapeCasts_S24x4096x6x128_S24x4096x768

theorem pay19_eq (u : FVec Ideal S98304x768 .f32) : k0_pay19 (F := Ideal) u
    = clampVec (timesVec (k0_pay16 u) (exp2 (subf (broadcast S24x4096x6 (Scalar.ofBits .f32 0x00000000#32)) (k0_pay17 u)))) := rfl

theorem subf_at (v : FVec Ideal S24x4096x6 .f32) (i : S24x4096x6.Idx) :
    subf (broadcast S24x4096x6 (Scalar.ofBits .f32 0x00000000#32)) v i = 0 - v i := by
  rw [← zero_f32]; rfl

theorem timesVec_at (v : FVec Ideal S24x4096x6x128 .f32) (e : FVec Ideal S24x4096x6 .f32) (b : Fin 24) (t : Fin 4096) (g : Fin 6) (j : Fin 128) :
    timesVec v e (ix4 b t g j) = v (ix4 b t g j) * e (ix3 b t g) := by
  pointwise [timesVec]

/-- The lane of `q` in its group. -/
def jQ (q : Fin 768) : Fin 128 := ⟨q.val % 128, by omega⟩
theorem qAt_gQ (q : Fin 768) : qAt (gQ q) (jQ q) = q := Fin.ext (by show 128 * (q.val / 128) + q.val % 128 = q.val; omega)

theorem clampVec_at (v : FVec Ideal S24x4096x6x128 .f32) (b : Fin 24) (t : Fin 4096) (q : Fin 768) :
    clampVec v (ix3 b t q) = min (Ideal.ofBits .f32 0x43E00000#32) (max (Ideal.ofBits .f32 0xC3E00000#32) (v (ix4 b t (gQ q) (jQ q)))) := by
  pointwise [clampVec]
  rfl

/-- Its codes. -/
theorem refQ_code (u : FVec Ideal S98304x768 .f32) (b : Fin 24) (t : Fin 4096) (q : Fin 768) :
    k0_pay19 (F := Ideal) u (ix3 b t q) = sQc (fun q => u (ix2 (rR b t) q)) q := by
  rw [pay19_eq, clampVec_at, timesVec_at, exp2_at, subf_at, refQ_exp, pay16_at, qAt_gQ]
  rfl

end Cert.Mla

end
-- ==== Proof.RefBlocks.lean ====
/- What the reference's run leaves: each result array is the body's result of the argument arrays, since the one grid point
   reads and writes whole arrays. -/
module

public import proofs.«01_k».proof.Proof.Gen.ReferenceIdeal.Frame
public import Idealize.ShloMosaic.Lib.Pipeline.Value
public import Idealize.ShloMosaic.Lib.Pointwise

@[expose] public section

set_option maxRecDepth 16384

noncomputable section

namespace Cert.Mla

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

theorem one_point (t t' : Fin cfg0.N) : t = t' := (fin_N0 t).trans (fin_N0 t').symm

/-- Block `t` of output array `w` after the run is what the point wrote back. -/
theorem ref_blocks (w : Fin cfg0.W) (t : Fin cfg0.N) (hf : (cfg0.win w).flush t = true) :
    ((cfg0.win w).blk t).view.read (Elt Ideal) ((dats m 0 c).arrAt w cfg0.N) = (dats m 0 c).flushed w t :=
  (dats m 0 c).read_blk_arrAt_eq_flushed w (fun t t' _ _ hne => absurd (one_point t t') hne) cfg0.N t t.isLt hf

theorem whole_coord (n k : ℕ) : 0 * n + 1 * k = k := by omega

/-! ## The blocks that the point reads: whole arrays -/

theorem refIn0 : (iblk m c 0 t0_0 : Vec Ideal S24x4096x2560 .bf16) = m ((c : Thread nD τ).loc main_arg0) := by
  rw [← V_main_arg0 m c]
  exact funext fun x => congrArg (V m c main_arg0) (funext fun a => Fin.ext (whole_coord _ _))
theorem refIn1 : (iblk m c 1 t0_0 : Vec Ideal S1056x2560 .fp8e4m3) = m ((c : Thread nD τ).loc main_arg1) := by
  rw [← V_main_arg1 m c]
  exact funext fun x => congrArg (V m c main_arg1) (funext fun a => Fin.ext (whole_coord _ _))
theorem refIn2 : (iblk m c 2 t0_0 : Vec Ideal S9x20 .f32) = m ((c : Thread nD τ).loc main_arg2) := by
  rw [← V_main_arg2 m c]
  exact funext fun x => congrArg (V m c main_arg2) (funext fun a => Fin.ext (whole_coord _ _))
theorem refIn3 : (iblk m c 3 t0_0 : Vec Ideal S1x768 .f32) = V m c main_v0 :=
  funext fun x => congrArg (V m c main_v0) (funext fun a => Fin.ext (whole_coord _ _))
theorem refIn4 : (iblk m c 4 t0_0 : Vec Ideal S1x256 .f32) = V m c main_v1 :=
  funext fun x => congrArg (V m c main_v1) (funext fun a => Fin.ext (whole_coord _ _))

/-- The two gains are given to the body as one row each. -/
theorem ref_v0 (q : Fin 768) : V m c main_v0 (ix2 0 q) = (m ((c : Thread nD τ).loc main_arg3) : Vec Ideal S768 .f32) (ix1 q) := by
  unfold_abbrev_sides
  after_results
  pointwise
theorem ref_v1 (k : Fin 256) : V m c main_v1 (ix2 0 k) = (m ((c : Thread nD τ).loc main_arg4) : Vec Ideal S256 .f32) (ix1 k) := by
  unfold_abbrev_sides
  after_results
  pointwise

/-! ## The arrays after the run -/

theorem refOut5 (x : S24x4096x768.Idx) : (dats m 0 c).arrAt 5 cfg0.N x
    = out0_5 (iblk m c 0 t0_0) (iblk m c 1 t0_0) (iblk m c 2 t0_0) (iblk m c 3 t0_0) (iblk m c 4 t0_0) x := by
  have h : (dats m 0 c).arrAt 5 cfg0.N (((cfg0.win 5).blk t0_0).view.emb x) = (dats m 0 c).after 5 t0_0 x :=
    congrFun (ref_blocks m c 5 t0_0 (by decide +kernel)) x
  rwa [show ((cfg0.win 5).blk t0_0).view.emb x = x from funext fun a => Fin.ext (whole_coord _ _), after0_5] at h
theorem refOut6 (x : S6x24x4096.Idx) : (dats m 0 c).arrAt 6 cfg0.N x
    = out0_6 (iblk m c 0 t0_0) (iblk m c 1 t0_0) (iblk m c 2 t0_0) (iblk m c 3 t0_0) (iblk m c 4 t0_0) x := by
  have h : (dats m 0 c).arrAt 6 cfg0.N (((cfg0.win 6).blk t0_0).view.emb x) = (dats m 0 c).after 6 t0_0 x :=
    congrFun (ref_blocks m c 6 t0_0 (by decide +kernel)) x
  rwa [show ((cfg0.win 6).blk t0_0).view.emb x = x from funext fun a => Fin.ext (whole_coord _ _), after0_6] at h
theorem refOut7 (x : S24x4096x256.Idx) : (dats m 0 c).arrAt 7 cfg0.N x
    = out0_7 (iblk m c 0 t0_0) (iblk m c 1 t0_0) (iblk m c 2 t0_0) (iblk m c 3 t0_0) (iblk m c 4 t0_0) x := by
  have h : (dats m 0 c).arrAt 7 cfg0.N (((cfg0.win 7).blk t0_0).view.emb x) = (dats m 0 c).after 7 t0_0 x :=
    congrFun (ref_blocks m c 7 t0_0 (by decide +kernel)) x
  rwa [show ((cfg0.win 7).blk t0_0).view.emb x = x from funext fun a => Fin.ext (whole_coord _ _), after0_7] at h
theorem refOut8 (x : S24x32x4096.Idx) : (dats m 0 c).arrAt 8 cfg0.N x
    = out0_8 (iblk m c 0 t0_0) (iblk m c 1 t0_0) (iblk m c 2 t0_0) (iblk m c 3 t0_0) (iblk m c 4 t0_0) x := by
  have h : (dats m 0 c).arrAt 8 cfg0.N (((cfg0.win 8).blk t0_0).view.emb x) = (dats m 0 c).after 8 t0_0 x :=
    congrFun (ref_blocks m c 8 t0_0 (by decide +kernel)) x
  rwa [show ((cfg0.win 8).blk t0_0).view.emb x = x from funext fun a => Fin.ext (whole_coord _ _), after0_8] at h
theorem refOut9 (x : S24x4096x2560.Idx) : (dats m 0 c).arrAt 9 cfg0.N x
    = out0_9 (iblk m c 0 t0_0) (iblk m c 1 t0_0) (iblk m c 2 t0_0) (iblk m c 3 t0_0) (iblk m c 4 t0_0) x := by
  have h : (dats m 0 c).arrAt 9 cfg0.N (((cfg0.win 9).blk t0_0).view.emb x) = (dats m 0 c).after 9 t0_0 x :=
    congrFun (ref_blocks m c 9 t0_0 (by decide +kernel)) x
  rwa [show ((cfg0.win 9).blk t0_0).view.emb x = x from funext fun a => Fin.ext (whole_coord _ _), after0_9] at h
theorem refOut10 (x : S20x24x4096.Idx) : (dats m 0 c).arrAt 10 cfg0.N x
    = out0_10 (iblk m c 0 t0_0) (iblk m c 1 t0_0) (iblk m c 2 t0_0) (iblk m c 3 t0_0) (iblk m c 4 t0_0) x := by
  have h : (dats m 0 c).arrAt 10 cfg0.N (((cfg0.win 10).blk t0_0).view.emb x) = (dats m 0 c).after 10 t0_0 x :=
    congrFun (ref_blocks m c 10 t0_0 (by decide +kernel)) x
  rwa [show ((cfg0.win 10).blk t0_0).view.emb x = x from funext fun a => Fin.ext (whole_coord _ _), after0_10] at h

/-- The run of the reference with each result array named, the arguments unchanged. -/
theorem ref_run : θ_run defs (onTc (τ := τ) (main (F := Ideal))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_v2_3) = (dats m 0 c).arrAt 8 cfg0.N
      ∧ r.2.mem ((c : Thread nD τ).loc main_v2_4) = (dats m 0 c).arrAt 9 cfg0.N
      ∧ r.2.mem ((c : Thread nD τ).loc main_v2_5) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, (h c).1 8, (h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.Mla

end
-- ==== Proof.RefArray.lean ====
/- What the reference's result arrays hold after the run, as a function of its arguments. -/
module

public import proofs.«01_k».proof.Proof.RefQuant
public import proofs.«01_k».proof.Proof.RefBlocks
public import Idealize.ShloMosaic.Lib.VecWindow

@[expose] public section

set_option maxRecDepth 16384

noncomputable section

namespace Cert.Mla

open Cert.ReferenceIdeal Cert.ReferenceIdeal.Gen Idealize.ShloMosaic Idealize.ShloMosaic.TcCoe Idealize.SL.Sem

/-! ## A store or a load of a whole buffer -/

theorem canon_full {s : Shape} {e : EltTy} {off : Fin s.rank → ℕ} (inb : ∀ a, off a + s.size a ≤ s.size a)
    (p : s.Idx → Elt Ideal e) (x : s.Idx) : View.canon (Val := Elt Ideal) [⟨Rect.unit off s.size inb, p⟩] x = p x := by
  have h := View.canon_cons_emb (Val := Elt Ideal) (Rect.unit off s.size inb) p [] x
  rwa [Rect.emb_unit_full] at h

theorem ld_full {s : Shape} {e : EltTy} {off : Fin s.rank → ℕ} (inb : ∀ a, off a + s.size a ≤ s.size a)
    (v : Vec Ideal s e) : View.ld v (Rect.unit off s.size inb) = v :=
  funext fun y => congrArg v (Rect.emb_unit_full inb y)

/-! ## The body's results at an index -/

section
variable (x : Vec Ideal S24x4096x2560 .bf16) (w : Vec Ideal S1056x2560 .fp8e4m3) (s : Vec Ideal S9x20 .f32)
variable (gq : Vec Ideal S1x768 .f32) (gk : Vec Ideal S1x256 .f32)

theorem out5_at (b : Fin 24) (t : Fin 4096) (q : Fin 768) :
    out0_5 x w s gq gk (ix3 b t q) = sQc (sU (refX x b t) (refW w s) (refGq gq)) q := by
  unfold out0_5 k0_pay22 k0_pay21 k0_pay20
  rw [canon_full, refQ_code]
  simp only [ld_full, ref_u, rB_rR, rT_rR]

theorem out6_at (b : Fin 24) (t : Fin 4096) (g : Fin 6) :
    out0_6 x w s gq gk (ix3 g b t) = sQs (sU (refX x b t) (refW w s) (refGq gq)) g := by
  unfold out0_6 k0_pay22 k0_pay21 k0_pay20
  rw [canon_full, refQ_scale]
  simp only [ld_full, ref_u, rB_rR, rT_rR]

theorem out7_at (b : Fin 24) (t : Fin 4096) (k : Fin 256) :
    out0_7 x w s gq gk (ix3 b t k) = sLat (refX x b t) (refW w s) (refGk gk) k := by
  unfold out0_7 k0_pay21 k0_pay20
  rw [canon_full]
  simp only [ld_full, ref_lat]

theorem out8_at (b : Fin 24) (t : Fin 4096) (p : Fin 32) :
    out0_8 x w s gq gk (ix3 b p t) = sPos (refX x b t) (refW w s) p := by
  unfold out0_8 k0_pay21 k0_pay20
  rw [canon_full]
  simp only [ld_full, ref_pos]

theorem out9_at (b : Fin 24) (t : Fin 4096) (d : Fin 2560) : out0_9 x w s gq gk (ix3 b t d) = sXc (refX x b t) d := by
  unfold out0_9
  rw [canon_full, ld_full, refX_code]
  rfl

theorem out10_at (b : Fin 24) (t : Fin 4096) (g : Fin 20) : out0_10 x w s gq gk (ix3 g b t) = sXs (refX x b t) g := by
  unfold out0_10
  rw [canon_full, ld_full, refX_scale']
  rfl
end

/-! ## The arrays -/

variable (m : (ℓ : Loc nD τ sig) → Buf (Elt Ideal) ℓ) (c : Dev nD)

/-- The arguments as functions of their coordinates. -/
def rowR (b : Fin 24) (t : Fin 4096) : Fin 2560 → EReal :=
  fun d => (m ((c : Thread nD τ).loc main_arg0) : Vec Ideal S24x4096x2560 .bf16) (ix3 b t d)
def wR : Fin 1056 → Fin 2560 → EReal :=
  sW (fun n d => (m ((c : Thread nD τ).loc main_arg1) : Vec Ideal S1056x2560 .fp8e4m3) (ix2 n d))
    (fun j g => (m ((c : Thread nD τ).loc main_arg2) : Vec Ideal S9x20 .f32) (ix2 j g))
def gqR : Fin 768 → EReal := fun q => (m ((c : Thread nD τ).loc main_arg3) : Vec Ideal S768 .f32) (ix1 q)
def gkR : Fin 256 → EReal := fun k => (m ((c : Thread nD τ).loc main_arg4) : Vec Ideal S256 .f32) (ix1 k)

theorem refX_arg (b : Fin 24) (t : Fin 4096) : refX (iblk m c 0 t0_0) b t = rowR m c b t := by rw [refIn0]; rfl
theorem refW_arg : refW (iblk m c 1 t0_0) (iblk m c 2 t0_0) = wR m c := by rw [refIn1, refIn2]; rfl
theorem refGq_arg : refGq (iblk m c 3 t0_0) = gqR m c := by rw [refIn3]; exact funext fun q => ref_v0 m c q
theorem refGk_arg : refGk (iblk m c 4 t0_0) = gkR m c := by rw [refIn4]; exact funext fun k => ref_v1 m c k

theorem R5_val (i : S24x4096x768.Idx) : (dats m 0 c).arrAt 5 cfg0.N i = sQc (sU (rowR m c (i 0) (i 1)) (wR m c) (gqR m c)) (i 2) := by
  obtain ⟨b, t, q, rfl⟩ : ∃ b t q, i = ix3 b t q := ⟨i 0, i 1, i 2, eq_ix3 i⟩
  refine (refOut5 m c _).trans ((out5_at _ _ _ _ _ b t q).trans ?_)
  rw [refX_arg, refW_arg, refGq_arg]; rfl
theorem R6_val (i : S6x24x4096.Idx) : (dats m 0 c).arrAt 6 cfg0.N i = sQs (sU (rowR m c (i 1) (i 2)) (wR m c) (gqR m c)) (i 0) := by
  obtain ⟨g, b, t, rfl⟩ : ∃ g b t, i = ix3 g b t := ⟨i 0, i 1, i 2, eq_ix3 i⟩
  refine (refOut6 m c _).trans ((out6_at _ _ _ _ _ b t g).trans ?_)
  rw [refX_arg, refW_arg, refGq_arg]; rfl
theorem R7_val (i : S24x4096x256.Idx) : (dats m 0 c).arrAt 7 cfg0.N i = sLat (rowR m c (i 0) (i 1)) (wR m c) (gkR m c) (i 2) := by
  obtain ⟨b, t, k, rfl⟩ : ∃ b t k, i = ix3 b t k := ⟨i 0, i 1, i 2, eq_ix3 i⟩
  refine (refOut7 m c _).trans ((out7_at _ _ _ _ _ b t k).trans ?_)
  rw [refX_arg, refW_arg, refGk_arg]; rfl
theorem R8_val (i : S24x32x4096.Idx) : (dats m 0 c).arrAt 8 cfg0.N i = sPos (rowR m c (i 0) (i 2)) (wR m c) (i 1) := by
  obtain ⟨b, p, t, rfl⟩ : ∃ b p t, i = ix3 b p t := ⟨i 0, i 1, i 2, eq_ix3 i⟩
  refine (refOut8 m c _).trans ((out8_at _ _ _ _ _ b t p).trans ?_)
  rw [refX_arg, refW_arg]; rfl
theorem R9_val (i : S24x4096x2560.Idx) : (dats m 0 c).arrAt 9 cfg0.N i = sXc (rowR m c (i 0) (i 1)) (i 2) := by
  obtain ⟨b, t, d, rfl⟩ : ∃ b t d, i = ix3 b t d := ⟨i 0, i 1, i 2, eq_ix3 i⟩
  refine (refOut9 m c _).trans ((out9_at _ _ _ _ _ b t d).trans ?_)
  rw [refX_arg]; rfl
theorem R10_val (i : S20x24x4096.Idx) : (dats m 0 c).arrAt 10 cfg0.N i = sXs (rowR m c (i 1) (i 2)) (i 0) := by
  obtain ⟨g, b, t, rfl⟩ : ∃ g b t, i = ix3 g b t := ⟨i 0, i 1, i 2, eq_ix3 i⟩
  refine (refOut10 m c _).trans ((out10_at _ _ _ _ _ b t g).trans ?_)
  rw [refX_arg]; rfl

end Cert.Mla

end
-- ==== Proof.lean ====
module

public import proofs.«01_k».proof.Defs
public import proofs.«01_k».proof.Proof.Gen.Kernel.Frame
public import proofs.«01_k».proof.Proof.Gen.Reference.Frame
public import proofs.«01_k».proof.Proof.KernelArray
public import proofs.«01_k».proof.Proof.RefArray

@[expose] public section

set_option maxRecDepth 16384

noncomputable section

namespace Cert.Proof

open Idealize.ShloMosaic Idealize.ShloMosaic.TcCoe Idealize.SL.Sem Cert.Mla

/-! ## The two programs' results, from arguments that agree -/

section
variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- The two programs are given the same arrays. -/
abbrev Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

/-- The same activation rows, dequantised weights and gains. -/
theorem row_agree (h : Agree m m' c) : rowR m' c = rowA m c := funext fun b => funext fun t => funext fun d => congrFun h.1 (ix3 b t d)
theorem w_agree (h : Agree m m' c) : wR m' c = wA m c :=
  congrArg₂ sW (funext fun n => funext fun d => congrFun h.2.1 (ix2 n d)) (funext fun j => funext fun g => congrFun h.2.2.1 (ix2 j g))
theorem gq_agree (h : Agree m m' c) : gqR m' c = gqA m c := funext fun q => congrFun h.2.2.2.1 (ix1 q)
theorem gk_agree (h : Agree m m' c) : gkR m' c = gkA m c := funext fun k => congrFun h.2.2.2.2 (ix1 k)

/-- The codes of the normed lanes. -/
theorem same5 (h : Agree m m' c) : (Cert.ReferenceIdeal.Gen.dats m' 0 c).arrAt 5 Cert.ReferenceIdeal.cfg0.N = Cert.KernelIdeal.Value.G5 m c := by
  funext i
  refine (R5_val m' c i).trans (.trans ?_ (G5_val m c i).symm)
  rw [row_agree h, w_agree h, gq_agree h]
/-- Their scales. -/
theorem same6 (h : Agree m m' c) : (Cert.ReferenceIdeal.Gen.dats m' 0 c).arrAt 6 Cert.ReferenceIdeal.cfg0.N = Cert.KernelIdeal.Value.G6 m c := by
  funext i
  refine (R6_val m' c i).trans (.trans ?_ (G6_val m c i).symm)
  rw [row_agree h, w_agree h, gq_agree h]
/-- The normed latent lanes. -/
theorem same7 (h : Agree m m' c) : (Cert.ReferenceIdeal.Gen.dats m' 0 c).arrAt 7 Cert.ReferenceIdeal.cfg0.N = Cert.KernelIdeal.Value.G7 m c := by
  funext i
  refine (R7_val m' c i).trans (.trans ?_ (G7_val m c i).symm)
  rw [row_agree h, w_agree h, gk_agree h]
/-- The position lanes. -/
theorem same8 (h : Agree m m' c) : (Cert.ReferenceIdeal.Gen.dats m' 0 c).arrAt 8 Cert.ReferenceIdeal.cfg0.N = Cert.KernelIdeal.Value.G8 m c := by
  funext i
  refine (R8_val m' c i).trans (.trans ?_ (G8_val m c i).symm)
  rw [row_agree h, w_agree h]
/-- The activation codes. -/
theorem same9 (h : Agree m m' c) : (Cert.ReferenceIdeal.Gen.dats m' 0 c).arrAt 9 Cert.ReferenceIdeal.cfg0.N = Cert.KernelIdeal.Value.G9 m c := by
  funext i
  refine (R9_val m' c i).trans (.trans ?_ (G9_val m c i).symm)
  rw [row_agree h]
/-- Their scales. -/
theorem same10 (h : Agree m m' c) : (Cert.ReferenceIdeal.Gen.dats m' 0 c).arrAt 10 Cert.ReferenceIdeal.cfg0.N = Cert.KernelIdeal.Value.G10 m c := by
  funext i
  refine (R10_val m' c i).trans (.trans ?_ (G10_val m c i).symm)
  rw [row_agree h]

end

/-! ## The claims -/

/-- From equal arguments the two programs at extended reals leave equal results and their arguments as they were. -/
theorem algebraic : Cert.algebraic_KernelIdeal_ReferenceIdeal := by
  intro m ρ m' ρ' _ hag
  refine ⟨_, _, _, _, _, _, Cert.KernelIdeal.Value.run (F := Ideal) m ρ, ?_⟩
  exact (θ_run Cert.ReferenceIdeal.defs _ _).mono
    (fun _ h c => ⟨(h c).1.trans (same5 (hag c)), (h c).2.1.trans (same6 (hag c)), (h c).2.2.1.trans (same7 (hag c)),
      (h c).2.2.2.1.trans (same8 (hag c)), (h c).2.2.2.2.1.trans (same9 (hag c)), (h c).2.2.2.2.2.1.trans (same10 (hag c)),
      (h c).2.2.2.2.2.2⟩)
    (ref_run m' ρ')

/-- The one named constant of the reference is `1 / log 2`. -/
theorem preserves_ref : Cert.preserves_Reference_ReferenceIdeal :=
  IdealRules.named_const.statement Cert.ReferenceIdeal.κ "log2e" .f32 0x3FB8AA3B#32 (((Real.log 2)⁻¹ : ℝ) : EReal) rfl

theorem claim : Cert.Claim :=
  ⟨Cert.Kernel.Gen.facts, Cert.KernelIdeal.Gen.facts, Cert.ReferenceIdeal.Gen.facts, Cert.Reference.Gen.facts,
    fun m ρ _ => Cert.Kernel.Gen.frame m ρ, fun m ρ _ => Cert.KernelIdeal.Gen.frame m ρ,
    fun m ρ _ => Cert.ReferenceIdeal.Gen.frame m ρ, fun m ρ _ => Cert.Reference.Gen.frame m ρ,
    trivial, preserves_ref, algebraic⟩

end Cert.Proof

end
